-- ==== Defs.lean ====
def Pre_Kernel [hPre_splits_in_range : Cert.Pre_splits_in_range.Facts] (m : (ℓ : Loc Cert.Kernel.nD Cert.Kernel.τ Cert.Kernel.sig) → Buf (Elt Bits) ℓ) : Prop :=
  ∀ c : Dev Cert.Kernel.nD,
    (Cert.Pre_splits_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_splits_in_range : Cert.Pre_splits_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_splits_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_row_splits_of_tokens [hPre_row_splits_of_tokens : Cert.Pre_row_splits_of_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_row_splits_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_splits_of_tokens [hPre_row_splits_of_tokens : Cert.Pre_row_splits_of_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_splits_of_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_splits_in_range : Cert.Pre_splits_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_splits_in_range : Cert.Pre_splits_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_row_splits_of_tokens [hKernelIdeal : Cert.KernelIdeal.Facts] [hPre_row_splits_of_tokens : Cert.Pre_row_splits_of_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_splits_of_tokens m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_row_splits_of_tokens [hReferenceIdeal : Cert.ReferenceIdeal.Facts] [hPre_row_splits_of_tokens : Cert.Pre_row_splits_of_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_splits_of_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_row_splits_of_tokens [hKernelIdeal : Cert.KernelIdeal.Facts] [hReferenceIdeal : Cert.ReferenceIdeal.Facts] [hPre_row_splits_of_tokens : Cert.Pre_row_splits_of_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_splits_of_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_splits_in_range : Cert.Pre_splits_in_range.Facts) (hPre_row_splits_of_tokens : Cert.Pre_row_splits_of_tokens.Facts),
    quiescent_Kernel (hKernel := hKernel) (hPre_splits_in_range := hPre_splits_in_range)
    ∧ quiescent_KernelIdeal (hKernelIdeal := hKernelIdeal) (hPre_splits_in_range := hPre_splits_in_range)
    ∧ quiescent_KernelIdeal_pre_row_splits_of_tokens (hKernelIdeal := hKernelIdeal) (hPre_row_splits_of_tokens := hPre_row_splits_of_tokens)
    ∧ quiescent_ReferenceIdeal (hReferenceIdeal := hReferenceIdeal)
    ∧ quiescent_ReferenceIdeal_pre_row_splits_of_tokens (hReferenceIdeal := hReferenceIdeal) (hPre_row_splits_of_tokens := hPre_row_splits_of_tokens)
    ∧ preserves_Kernel_KernelIdeal
    ∧ algebraic_KernelIdeal_ReferenceIdeal_pre_row_splits_of_tokens (hKernelIdeal := hKernelIdeal) (hReferenceIdeal := hReferenceIdeal) (hPre_row_splits_of_tokens := hPre_row_splits_of_tokens)
-- ==== Pre_row_splits_of_tokens.lean ====
abbrev S32768 : Shape := ⟨1, ![32768]⟩
abbrev S17 : Shape := ⟨1, ![17]⟩
abbrev S16 : Shape := ⟨1, ![16]⟩
abbrev S1 : Shape := ⟨1, ![1]⟩
abbrev S_ : Shape := ⟨0, ![]⟩
abbrev S1x16 : Shape := ⟨2, ![1, 16]⟩
abbrev S32768x1 : Shape := ⟨2, ![32768, 1]⟩
abbrev S32768x16 : Shape := ⟨2, ![32768, 16]⟩

class Facts : Prop where
  slices_S17_S16_0 : S17.Slices ![0] S16
  slices_S17_S16_1 : S17.Slices ![1] S16
  slices_S17_S1_0 : S17.Slices ![0] S1
  bcast_S_S1 : S_.BroadcastsInDim S1 (![] : Fin 0 → Fin S1.rank)
  bcast_S1_S16_0 : S1.BroadcastsInDim S16 (![0] : Fin 1 → Fin S16.rank)
  slices_S17_S1_16 : S17.Slices ![16] S1
  bcast_S16_S1x16_1 : S16.BroadcastsInDim S1x16 (![1] : Fin 1 → Fin S1x16.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1x16_S32768x16_0_1 : S1x16.BroadcastsInDim S32768x16 (![0, 1] : Fin 2 → Fin S32768x16.rank)
  bcast_S32768x1_S32768x16_0_1 : S32768x1.BroadcastsInDim S32768x16 (![0, 1] : Fin 2 → Fin S32768x16.rank)

variable [Facts]

def fn {F : FTy → Type} [FloatOps F] (main_arg0 : IVec S32768 32) (main_arg1 : IVec S17 32) : IVec S32768x16 1 :=
  let main_v0 : IVec S16 32 := (extractStridedSlice S16 ![0] · slices_S17_S16_0) main_arg1
  let main_v1 : IVec S16 32 := (extractStridedSlice S16 ![1] · slices_S17_S16_1) main_arg1
  let main_v2 : IVec S16 1 := cmpi .sle main_v0 main_v1
  let main_v3 : IVec S1 32 := (extractStridedSlice S1 ![0] · slices_S17_S1_0) main_arg1
  let main_c : IVec S_ 32 := constantI S_ 32 0#32
  let main_v4 : IVec S1 32 := broadcastInDim S1 ![] bcast_S_S1 main_c
  let main_v5 : IVec S1 1 := cmpi .eq main_v3 main_v4
  let main_v6 : IVec S16 1 := broadcastInDim S16 ![0] bcast_S1_S16_0 main_v5
  let main_v7 : IVec S16 1 := andi main_v2 main_v6
  let main_v8 : IVec S1 32 := (extractStridedSlice S1 ![16] · slices_S17_S1_16) main_arg1
  let main_c_0 : IVec S_ 32 := constantI S_ 32 32768#32
  let main_v9 : IVec S1 32 := broadcastInDim S1 ![] bcast_S_S1 main_c_0
  let main_v10 : IVec S1 1 := cmpi .eq main_v8 main_v9
  let main_v11 : IVec S16 1 := broadcastInDim S16 ![0] bcast_S1_S16_0 main_v10
  let main_v12 : IVec S16 1 := andi main_v7 main_v11
  let main_v13 : IVec S1x16 1 := broadcastInDim S1x16 ![1] bcast_S16_S1x16_1 main_v12
  let main_v14 : IVec S32768x1 32 := broadcastInDim S32768x1 ![0] bcast_S32768_S32768x1_0 main_arg0
  let main_c_1 : IVec S_ 32 := constantI S_ 32 0#32
  let main_v15 : IVec S32768x1 32 := broadcastInDim S32768x1 ![] bcast_S_S32768x1 main_c_1
  let main_v16 : IVec S32768x1 1 := cmpi .sge main_v14 main_v15
  let main_v17 : IVec S32768x16 1 := broadcastInDim S32768x16 ![0, 1] bcast_S1x16_S32768x16_0_1 main_v13
  let main_v18 : IVec S32768x16 1 := broadcastInDim S32768x16 ![0, 1] bcast_S32768x1_S32768x16_0_1 main_v16
  let main_v19 : IVec S32768x16 1 := andi main_v17 main_v18
  main_v19
-- ==== Pre_splits_in_range.lean ====
abbrev S32768 : Shape := ⟨1, ![32768]⟩
abbrev S17 : Shape := ⟨1, ![17]⟩
abbrev S_ : Shape := ⟨0, ![]⟩

class Facts : Prop where
  bcast_S_S17 : S_.BroadcastsInDim S17 (![] : Fin 0 → Fin S17.rank)

variable [Facts]

def fn {F : FTy → Type} [FloatOps F] (main_arg0 : IVec S32768 32) (main_arg1 : IVec S17 32) : IVec S17 1 :=
  let main_c : IVec S_ 32 := constantI S_ 32 0#32
  let main_v0 : IVec S17 32 := broadcastInDim S17 ![] bcast_S_S17 main_c
  let main_v1 : IVec S17 1 := cmpi .sge main_arg1 main_v0
  let main_c_0 : IVec S_ 32 := constantI S_ 32 32768#32
  let main_v2 : IVec S17 32 := broadcastInDim S17 ![] bcast_S_S17 main_c_0
  let main_v3 : IVec S17 1 := cmpi .sle main_arg1 main_v2
  let main_v4 : IVec S17 1 := andi main_v1 main_v3
  main_v4
-- ==== Kernel.lean ====
abbrev S32768 : Shape := ⟨1, ![32768]⟩
abbrev S17 : Shape := ⟨1, ![17]⟩
abbrev S65536 : Shape := ⟨1, ![65536]⟩
abbrev S32 : Shape := ⟨1, ![32]⟩
abbrev S6160 : Shape := ⟨1, ![6160]⟩
abbrev S2048 : Shape := ⟨1, ![2048]⟩
abbrev S_ : Shape := ⟨0, ![]⟩
abbrev S16 : Shape := ⟨1, ![16]⟩
abbrev S1 : Shape := ⟨1, ![1]⟩
abbrev S2056 : Shape := ⟨1, ![2056]⟩
abbrev S16x4096 : Shape := ⟨2, ![16, 4096]⟩

abbrev nBuf : Table → Nat
  | .hbm => 4
  | .local .scVector .vmem => 3
  | _ => 0

abbrev bufTy : (tb : Table) → Fin (nBuf tb) → BufTy
  | .hbm, ⟨0, _⟩ => ⟨S32768, .i32⟩
  | .hbm, ⟨1, _⟩ => ⟨S17, .i32⟩
  | .hbm, ⟨2, _⟩ => ⟨S65536, .i32⟩
  | .hbm, ⟨3, _⟩ => ⟨S16x4096, .i32⟩
  | .local .scVector .vmem, ⟨0, _⟩ => ⟨S32, .i32⟩
  | .local .scVector .vmem, ⟨1, _⟩ => ⟨S6160, .i32⟩
  | .local .scVector .vmem, ⟨2, _⟩ => ⟨S2048, .i32⟩
  | _, _ => ⟨S32768, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let v29 : Index := Scalar.indexCast v18
  ![v29.toNat]
def k0_mult1 (i : grid0.Coords) (v33 : BitVec 32) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v38 : BitVec 32 := Scalar.muli v28 c2048_i32
  let v39 : BitVec 32 := Scalar.addi v33 v38
  let c_m8_i32 : BitVec 32 := 4294967288#32
  let v40 : BitVec 32 := Scalar.andi v39 c_m8_i32
  let c30712_i32 : BitVec 32 := 30712#32
  let v41 : BitVec 32 := Scalar.minsi v40 c30712_i32
  v41

def k0_off2 (i : grid0.Coords) (v33 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v38 : BitVec 32 := Scalar.muli v28 c2048_i32
  let v39 : BitVec 32 := Scalar.addi v33 v38
  let c_m8_i32 : BitVec 32 := 4294967288#32
  let v40 : BitVec 32 := Scalar.andi v39 c_m8_i32
  let c30712_i32 : BitVec 32 := 30712#32
  let v41 : BitVec 32 := Scalar.minsi v40 c30712_i32
  let v42 : BitVec 32 := v41
  ![v42.toNat]
@[reducible] def k0_t1_loop : Scf.Loop 32 :=
  let c0_i32_11 : BitVec 32 := 0#32
  let c64_i32 : BitVec 32 := 64#32
  let v46 : BitVec 32 := Scalar.addi c0_i32_11 c64_i32
  let c1_i32_12 : BitVec 32 := 1#32
  ⟨c0_i32_11, v46, c1_i32_12⟩
def k0_off3 (i : grid0.Coords) (v33 : BitVec 32) (k0_t1 : Fin k0_t1_loop.trips) (c0_i32_16 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v38 : BitVec 32 := Scalar.muli v28 c2048_i32
  let v39 : BitVec 32 := Scalar.addi v33 v38
  let c_m8_i32 : BitVec 32 := 4294967288#32
  let v40 : BitVec 32 := Scalar.andi v39 c_m8_i32
  let c30712_i32 : BitVec 32 := 30712#32
  let v41 : BitVec 32 := Scalar.minsi v40 c30712_i32
  let v42 : BitVec 32 := v41
  let v43 : BitVec 32 := Scalar.subi v39 v42
  let c0_i32_11 : BitVec 32 := 0#32
  let c1_i32_12 : BitVec 32 := 1#32
  let arg8 : BitVec 32 := Scf.iv c0_i32_11 c1_i32_12 k0_t1
  let c2_i32_15 : BitVec 32 := 2#32
  let v49 : BitVec 32 := Scalar.muli arg8 c2_i32_15
  let v50 : BitVec 32 := Scalar.addi v49 c0_i32_16
  let c16_i32_17 : BitVec 32 := 16#32
  let v51 : BitVec 32 := Scalar.muli v50 c16_i32_17
  let v52 : BitVec 32 := Scalar.addi v43 v51
  let v53 : Index := Scalar.indexCast v52
  ![v53.toNat]

def k0_chk1 (i : grid0.Coords) (v33 : BitVec 32) : Prop :=
  (8 ∣ (k0_mult1 i v33).toNat) ∧
  (∀ a, (k0_off2 i v33) a + S2056.size a ≤ S32768.size a) ∧
  (∀ k0_t1 : Fin k0_t1_loop.trips, ∀ (r : Fin 2), ∀ a, (k0_off3 i v33 k0_t1 (BitVec.ofNat 32 r.val)) a + S16.size a ≤ S6160.size a)
theorem k0_mult1_dvd : ∀ (i : grid0.Coords) (v33 : BitVec 32) (k0_hw1 : k0_chk1 i v33), 8 ∣ (k0_mult1 i v33).toNat := fun i v33 k0_hw1 => k0_hw1.1
theorem k0_off2_inb : ∀ (i : grid0.Coords) (v33 : BitVec 32) (k0_hw1 : k0_chk1 i v33), ∀ a, (k0_off2 i v33) a + S2056.size a ≤ S32768.size a := fun i v33 k0_hw1 => k0_hw1.2.1
theorem k0_off3_inb : ∀ (i : grid0.Coords) (v33 : BitVec 32) (k0_hw1 : k0_chk1 i v33) (k0_t1 : Fin k0_t1_loop.trips), ∀ (r : Fin 2), ∀ a, (k0_off3 i v33 k0_t1 (BitVec.ofNat 32 r.val)) a + S16.size a ≤ S6160.size a := fun i v33 k0_hw1 k0_t1 r => k0_hw1.2.2 k0_t1 r

def k0_off4 (k0_t1 : Fin k0_t1_loop.trips) (c0_i32_16 : BitVec 32) : Fin 1 → Nat :=
  let c0_i32_11 : BitVec 32 := 0#32
  let c1_i32_12 : BitVec 32 := 1#32
  let arg8 : BitVec 32 := Scf.iv c0_i32_11 c1_i32_12 k0_t1
  let c2_i32_15 : BitVec 32 := 2#32
  let v49 : BitVec 32 := Scalar.muli arg8 c2_i32_15
  let v50 : BitVec 32 := Scalar.addi v49 c0_i32_16
  let c16_i32_21 : BitVec 32 := 16#32
  let v81 : BitVec 32 := Scalar.muli v50 c16_i32_21
  let v82 : Index := Scalar.indexCast v81
  ![v82.toNat]
def k0_off5 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c4096_i32_14 : BitVec 32 := 4096#32
  let v47 : BitVec 32 := Scalar.muli v18 c4096_i32_14
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32_10 : BitVec 32 := 2048#32
  let v44 : BitVec 32 := Scalar.muli v28 c2048_i32_10
  let v48 : BitVec 32 := Scalar.addi v47 v44
  ![v48.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768 : Shape := ⟨1, ![32768]⟩
abbrev S17 : Shape := ⟨1, ![17]⟩
abbrev S_ : Shape := ⟨0, ![]⟩
abbrev S1x17 : Shape := ⟨2, ![1, 17]⟩
abbrev S32768x1 : Shape := ⟨2, ![32768, 1]⟩
abbrev S32768x17 : Shape := ⟨2, ![32768, 17]⟩
abbrev S17x4096 : Shape := ⟨2, ![17, 4096]⟩
abbrev S32768x2 : Shape := ⟨2, ![32768, 2]⟩
abbrev S16x4096 : Shape := ⟨2, ![16, 4096]⟩

abbrev nBuf : Space → Nat
  | .hbm => 86
  | .vmem => 0
  | .smem => 0
  | _ => 0

abbrev bufTy : (tb : Table) → Fin (tcTables nBuf tb) → BufTy
  | .hbm, ⟨0, _⟩ => ⟨S32768, .i32⟩
  | .hbm, ⟨1, _⟩ => ⟨S17, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S_, .i32⟩
  | .hbm, ⟨11, _⟩ => ⟨S32768, .i32⟩
  | .hbm, ⟨12, _⟩ => ⟨S32768, .i1⟩
  | .hbm, ⟨13, _⟩ => ⟨S_, .i32⟩
  | .hbm, ⟨14, _⟩ => ⟨S32768, .i32⟩
  | .hbm, ⟨15, _⟩ => ⟨S32768, .i1⟩
  | .hbm, ⟨16, _⟩ => ⟨S_, .i32⟩
  | .hbm, ⟨17, _⟩ => ⟨S_, .i1⟩
  | .hbm, ⟨18, _⟩ => ⟨S32768, .i1⟩
  | .hbm, ⟨19, _⟩ => ⟨S32768, .i1⟩
  | .hbm, ⟨20, _⟩ => ⟨S32768, .i1⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S32768, .i32⟩
  | .hbm, ⟨25, _⟩ => ⟨S1x17, .i32⟩
  | .hbm, ⟨26, _⟩ => ⟨S32768x1, .i32⟩
  | .hbm, ⟨27, _⟩ => ⟨S32768x17, .i32⟩
  | .hbm, ⟨28, _⟩ => ⟨S32768x17, .i32⟩
  | .hbm, ⟨29, _⟩ => ⟨S32768x17, .i1⟩
  | .hbm, ⟨30, _⟩ => ⟨S32768x17, .i32⟩
  | .hbm, ⟨31, _⟩ => ⟨S_, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S32768, .i32⟩
  | .hbm, ⟨40, _⟩ => ⟨S32768, .i32⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S_, .i32⟩
  | .hbm, ⟨45, _⟩ => ⟨S32768, .i32⟩
  | .hbm, ⟨46, _⟩ => ⟨S32768, .i1⟩
  | .hbm, ⟨47, _⟩ => ⟨S_, .i32⟩
  | .hbm, ⟨48, _⟩ => ⟨S32768, .i32⟩
  | .hbm, ⟨49, _⟩ => ⟨S32768, .i32⟩
  | .hbm, ⟨50, _⟩ => ⟨S32768, .i32⟩
  | .hbm, ⟨51, _⟩ => ⟨S32768x1, .i32⟩
  | .hbm, ⟨52, _⟩ => ⟨S32768, .i32⟩
  | .hbm, ⟨53, _⟩ => ⟨S32768, .i32⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S_, .i32⟩
  | .hbm, ⟨58, _⟩ => ⟨S_, .i32⟩
  | .hbm, ⟨59, _⟩ => ⟨S32768, .i32⟩
  | .hbm, ⟨60, _⟩ => ⟨S32768, .i32⟩
  | .hbm, ⟨61, _⟩ => ⟨S_, .i32⟩
  | .hbm, ⟨62, _⟩ => ⟨S_, .i32⟩
  | .hbm, ⟨63, _⟩ => ⟨S32768, .i32⟩
  | .hbm, ⟨64, _⟩ => ⟨S32768, .i32⟩
  | .hbm, ⟨65, _⟩ => ⟨S_, .i32⟩
  | .hbm, ⟨66, _⟩ => ⟨S17x4096, .i32⟩
  | .hbm, ⟨67, _⟩ => ⟨S_, .i32⟩
  | .hbm, ⟨68, _⟩ => ⟨S32768, .i32⟩
  | .hbm, ⟨69, _⟩ => ⟨S32768, .i1⟩
  | .hbm, ⟨70, _⟩ => ⟨S_, .i32⟩
  | .hbm, ⟨71, _⟩ => ⟨S32768, .i32⟩
  | .hbm, ⟨72, _⟩ => ⟨S32768, .i32⟩
  | .hbm, ⟨73, _⟩ => ⟨S32768, .i32⟩
  | .hbm, ⟨74, _⟩ => ⟨S_, .i32⟩
  | .hbm, ⟨75, _⟩ => ⟨S32768, .i32⟩
  | .hbm, ⟨76, _⟩ => ⟨S32768, .i1⟩
  | .hbm, ⟨77, _⟩ => ⟨S_, .i32⟩
  | .hbm, ⟨78, _⟩ => ⟨S32768, .i32⟩
  | .hbm, ⟨79, _⟩ => ⟨S32768, .i32⟩
  | .hbm, ⟨80, _⟩ => ⟨S32768, .i32⟩
  | .hbm, ⟨81, _⟩ => ⟨S32768x1, .i32⟩
  | .hbm, ⟨82, _⟩ => ⟨S32768x1, .i32⟩
  | .hbm, ⟨83, _⟩ => ⟨S32768x2, .i32⟩
  | .hbm, ⟨84, _⟩ => ⟨S17x4096, .i32⟩
  | .hbm, ⟨85, _⟩ => ⟨S16x4096, .i32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v11 : Ref sig .tc := ⟨.hbm, 43, rfl⟩
abbrev main_c_4 : Ref sig .tc := ⟨.hbm, 44, rfl⟩
abbrev main_v12 : Ref sig .tc := ⟨.hbm, 45, rfl⟩
abbrev main_v13 : Ref sig .tc := ⟨.hbm, 46, rfl⟩
abbrev main_c_5 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_6 : Ref sig .tc := ⟨.hbm, 54, rfl⟩
abbrev main_v20 : Ref sig .tc := ⟨.hbm, 55, rfl⟩
abbrev main_v21 : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_v22 : Ref sig .tc := ⟨.hbm, 60, rfl⟩
abbrev main_c_8 : Ref sig .tc := ⟨.hbm, 61, rfl⟩
abbrev main_call3_v0 : Ref sig .tc := ⟨.hbm, 62, rfl⟩
abbrev main_call3_v1 : Ref sig .tc := ⟨.hbm, 63, rfl⟩
abbrev main_v23 : Ref sig .tc := ⟨.hbm, 64, rfl⟩
abbrev main_c_9 : Ref sig .tc := ⟨.hbm, 65, rfl⟩
abbrev main_v24 : Ref sig .tc := ⟨.hbm, 66, rfl⟩
abbrev main_c_10 : Ref sig .tc := ⟨.hbm, 67, rfl⟩
abbrev main_v25 : Ref sig .tc := ⟨.hbm, 68, rfl⟩
abbrev main_v26 : Ref sig .tc := ⟨.hbm, 69, rfl⟩
abbrev main_c_11 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_12 : Ref sig .tc := ⟨.hbm, 74, rfl⟩
abbrev main_v30 : Ref sig .tc := ⟨.hbm, 75, rfl⟩
abbrev main_v31 : Ref sig .tc := ⟨.hbm, 76, rfl⟩
abbrev main_c_13 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩

abbrev nD : Nat := 1
abbrev τ : Topo := Topo.v7x

variable {F : FTy → Type} [FloatOps F]
-- ==== Proof.Lane.lean ====
/-
  What ONE lane of the kernel computes, over 32-bit words and any float instance: the feature hash of a token id — the
  remainder of the id by 100000, taken with a rounded reciprocal and mended by one addition or one subtraction — and the
  padded batch's word at a place, which is that hash where the place holds a token of its row and zero where it is padding.
-/
module

public import Idealize.ShloMosaic.PureOps

@[expose] public section

noncomputable section

namespace Cert.Proof.Lane

open Idealize.ShloMosaic

/-- The index of a one-axis array at position `n` (reduced modulo the extent, so that it is total). -/
abbrev at1 (N : Nat) [NeZero N] (n : Nat) : (⟨1, ![N]⟩ : Shape).Idx :=
  fun a => match a with | ⟨0, _⟩ => (⟨n % N, Nat.mod_lt _ (Nat.pos_of_ne_zero (NeZero.ne N))⟩ : Fin N)

/-- An index of a one-axis array is the one at its coordinate. -/
theorem at1_eq {N : Nat} [NeZero N] (x : (⟨1, ![N]⟩ : Shape).Idx) : at1 N (x 0).val = x := by
  funext a
  match a with
  | ⟨0, _⟩ => exact Fin.ext (Nat.mod_eq_of_lt (x 0).isLt)

/-- Two indices of a one-axis array with the same coordinate are the same. -/
theorem at1_of_val {N : Nat} [NeZero N] (x : (⟨1, ![N]⟩ : Shape).Idx) {n : Nat} (h : (x 0).val = n) : x = at1 N n := by
  subst h; exact (at1_eq x).symm

/-- The coordinate of the index at a position inside the extent. -/
theorem at1_val {N : Nat} [NeZero N] {n : Nat} (h : n < N) : ((at1 N n) 0).val = n := Nat.mod_eq_of_lt h

/-- The remainder of `n` by 100000 from a candidate quotient `q`: one addition where it came out negative, then one
    subtraction where it came out at least 100000. -/
def mend (n q : BitVec 32) : BitVec 32 :=
  let r := IntOp.subi n (IntOp.muli q 100000#32)
  let r' := Scalar.select (IntOp.cmpi .slt r 0#32) (IntOp.addi r 100000#32) r
  Scalar.select (IntOp.cmpi .sge r' 100000#32) (IntOp.subi r' 100000#32) r'

variable (F : FTy → Type) [FloatOps F]

/-- The candidate quotient: the id as a float, times the reciprocal of 100000 rounded to a float, truncated. -/
def quot (n : BitVec 32) : BitVec 32 :=
  FloatOps.fptosi 32 (FloatOps.mulf (FloatOps.sitofp .f32 n : F .f32) (Scalar.ofBits .f32 0x3727C5AC#32))

/-- The feature hash of a token id. -/
def hash (n : BitVec 32) : BitVec 32 := mend n (quot F n)

/-- The padded batch, flat: word `4096·b + col` is the hash of token `cu[b] + col` where that lies before `cu[b + 1]`, and
    zero otherwise. -/
def cell (flat : (⟨1, ![32768]⟩ : Shape).Idx → BitVec 32) (cu : (⟨1, ![17]⟩ : Shape).Idx → BitVec 32) (w : Nat) : BitVec 32 :=
  if (cu (at1 17 (w / 4096))).toNat + w % 4096 < (cu (at1 17 (w / 4096 + 1))).toNat then
    hash F (flat (at1 32768 ((cu (at1 17 (w / 4096))).toNat + w % 4096)))
  else 0#32

end Cert.Proof.Lane

end
-- ==== Proof.Pre.lean ====
/-
  What the two preconditions of the statement say of the arrays, read off their printed predicates: the row splits' range, and
  the row splits of a token stream (from 0 to 32768, never decreasing, over tokens that are not negative).
-/
module

public import proofs.«01_k».proof.Proof.Lane
public import proofs.«01_k».proof.Proof.Gen.Pre_splits_in_range
public import proofs.«01_k».proof.Proof.Gen.Pre_row_splits_of_tokens

@[expose] public section

noncomputable section

namespace Cert.Proof.Pre

open Idealize.ShloMosaic Cert.Proof.Lane

variable {F : FTy → Type} [FloatOps F]

/-- Two bits' conjunction is one exactly when both are. -/
theorem andi_one {a b : BitVec 1} : IntOp.andi a b = 1#1 ↔ a = 1#1 ∧ b = 1#1 := by
  revert a b; decide

/-- A truth value's bit is one exactly when it is true. -/
theorem ofBool_one (p : Bool) : BitVec.ofBool p = 1#1 ↔ p = true := by cases p <;> decide

/-- A comparison's word is one exactly when the comparison of the signed values holds. -/
theorem sle_one {a b : BitVec 32} : IntOp.cmpi .sle a b = 1#1 ↔ a.toInt ≤ b.toInt := by
  simp only [IntOp.cmpi, ofBool_one, BitVec.sle_eq_decide, decide_eq_true_eq]
/-- The same for the converse comparison ... -/
theorem sge_one {a b : BitVec 32} : IntOp.cmpi .sge a b = 1#1 ↔ b.toInt ≤ a.toInt := by
  simp only [IntOp.cmpi, ofBool_one, BitVec.sle_eq_decide, decide_eq_true_eq]
/-- ... and for equality. -/
theorem eq_one {a b : BitVec 32} : IntOp.cmpi .eq a b = 1#1 ↔ a = b := by
  simp only [IntOp.cmpi, ofBool_one, beq_iff_eq]

/-- `splits_in_range` bounds every row split by the number of tokens. -/
theorem splits_le (f : IVec ⟨1, ![32768]⟩ 32) (u : IVec ⟨1, ![17]⟩ 32)
    (h : Cert.Pre_splits_in_range.fn (F := F) f u = fun _ => 1#1) (j : (⟨1, ![17]⟩ : Shape).Idx) : (u j).toNat ≤ 32768 := by
  have e := congrFun h j
  simp only [Cert.Pre_splits_in_range.fn, andi, cmpi, broadcastInDim, constantI, andi_one, sle_one, sge_one] at e
  obtain ⟨e0, e1⟩ := e
  have h0 : (0#32).toInt = 0 := by decide
  have h1 : (32768#32).toInt = 32768 := by decide
  rw [h0] at e0; rw [h1] at e1
  rw [BitVec.toInt_eq_toNat_cond] at e0 e1
  split at e0 <;> omega

/-- The row splits of a token stream. -/
structure Rows (f : IVec ⟨1, ![32768]⟩ 32) (u : IVec ⟨1, ![17]⟩ 32) : Prop where
  /-- no row is of negative length -/
  mono : ∀ i, i < 16 → (u (at1 17 i)).toNat ≤ (u (at1 17 (i + 1))).toNat
  /-- the first row begins at the first token -/
  first : (u (at1 17 0)).toNat = 0
  /-- the last row ends at the last token -/
  last : (u (at1 17 16)).toNat = 32768
  /-- no token is negative -/
  tokens : ∀ x, (f x).toNat < 2147483648

/-- The index of a two-axis array at row `n` and column `m` (each reduced modulo its extent). -/
abbrev at2 (N M : Nat) [NeZero N] [NeZero M] (n m : Nat) : (⟨2, ![N, M]⟩ : Shape).Idx :=
  fun a => match a with
    | ⟨0, _⟩ => (⟨n % N, Nat.mod_lt _ (Nat.pos_of_ne_zero (NeZero.ne N))⟩ : Fin N)
    | ⟨1, _⟩ => (⟨m % M, Nat.mod_lt _ (Nat.pos_of_ne_zero (NeZero.ne M))⟩ : Fin M)

/-- `row_splits_of_tokens` says so entry by entry: entry `(n, i)` of token `n` and of the splits `i` and `i + 1`. -/
theorem entry (f : IVec ⟨1, ![32768]⟩ 32) (u : IVec ⟨1, ![17]⟩ 32)
    (h : Cert.Pre_row_splits_of_tokens.fn (F := F) f u = fun _ => 1#1) (n i : Nat) (hn : n < 32768) (hi : i < 16) :
    (((u (at1 17 i)).toInt ≤ (u (at1 17 (i + 1))).toInt ∧ u (at1 17 0) = 0#32) ∧ u (at1 17 16) = 32768#32)
      ∧ 0 ≤ (f (at1 32768 n)).toInt := by
  have e := congrFun h (at2 32768 16 n i)
  simp only [Cert.Pre_row_splits_of_tokens.fn, andi, cmpi, broadcastInDim, constantI, extractStridedSlice, andi_one, sle_one,
    sge_one, eq_one] at e
  obtain ⟨⟨⟨e0, e1⟩, e2⟩, e3⟩ := e
  refine ⟨⟨⟨?_, ?_⟩, ?_⟩, ?_⟩
  · refine (congrArg BitVec.toInt (congrArg u ?_)).le.trans (e0.trans (congrArg BitVec.toInt (congrArg u ?_)).le)
    · exact (at1_of_val _ (show 0 + i % 16 = i by omega)).symm
    · exact at1_of_val _ (show 1 + i % 16 = i + 1 by omega)
  · exact (congrArg u (at1_of_val _ rfl).symm).trans e1
  · exact (congrArg u (at1_of_val _ rfl).symm).trans e2
  · refine Int.le_trans (by decide) (e3.trans (congrArg BitVec.toInt (congrArg f ?_)).le)
    exact at1_of_val _ (show n % 32768 = n by omega)

/-- The precondition of the value claim gives the row splits of a token stream. -/
theorem rows (f : IVec ⟨1, ![32768]⟩ 32) (u : IVec ⟨1, ![17]⟩ 32)
    (h : Cert.Pre_row_splits_of_tokens.fn (F := F) f u = fun _ => 1#1) : Rows f u := by
  have h0 : u (at1 17 0) = 0#32 := (entry f u h 0 0 (by omega) (by omega)).1.1.2
  have h16 : u (at1 17 16) = 32768#32 := (entry f u h 0 0 (by omega) (by omega)).1.2
  have hmono : ∀ i, i < 16 → (u (at1 17 i)).toInt ≤ (u (at1 17 (i + 1))).toInt :=
    fun i hi => (entry f u h 0 i (by omega) hi).1.1.1
  have hpos : ∀ i, i ≤ 16 → 0 ≤ (u (at1 17 i)).toInt := by
    intro i
    induction i with
    | zero => intro _; rw [h0]; decide
    | succ i ih => intro hi; exact Int.le_trans (ih (by omega)) (hmono i (by omega))
  have hnat : ∀ v : BitVec 32, 0 ≤ v.toInt → v.toInt = v.toNat ∧ v.toNat < 2147483648 := by
    intro v hv
    rw [BitVec.toInt_eq_toNat_cond] at hv ⊢
    have := v.isLt
    split at hv
    · rename_i h2; rw [if_pos h2]; omega
    · omega
  refine ⟨fun i hi => ?_, by rw [h0]; rfl, by rw [h16]; rfl, fun x => ?_⟩
  · have := hmono i hi
    have a := (hnat _ (hpos i (by omega))).1
    have b := (hnat _ (hpos (i + 1) (by omega))).1
    omega
  · have := (entry f u h (x 0).val 0 (x 0).isLt (by omega)).2
    rw [at1_eq] at this
    exact (hnat _ this).2

/-- Earlier splits are at most later ones. -/
theorem Rows.le {f : IVec ⟨1, ![32768]⟩ 32} {u : IVec ⟨1, ![17]⟩ 32} (h : Rows f u) {i k : Nat} (hik : i ≤ k) (hk : k ≤ 16) :
    (u (at1 17 i)).toNat ≤ (u (at1 17 k)).toNat := by
  induction k with
  | zero => rw [Nat.le_zero.mp hik]
  | succ k ih =>
    by_cases e : i = k + 1
    · rw [e]
    · exact (ih (by omega) (by omega)).trans (h.mono k (by omega))

/-- Every split is a position of the stream, or its end. -/
theorem Rows.splits_le {f : IVec ⟨1, ![32768]⟩ 32} {u : IVec ⟨1, ![17]⟩ 32} (h : Rows f u) (j : (⟨1, ![17]⟩ : Shape).Idx) :
    (u j).toNat ≤ 32768 := by
  have hj : (j 0).val < 17 := (j 0).isLt
  have := h.le (i := (j 0).val) (k := 16) (by omega) (by omega)
  rw [at1_eq, h.last] at this
  exact this

end Cert.Proof.Pre

end
-- ==== Proof.Words.lean ====
/-
  The tile's index arithmetic as naturals: where the 2056-word copy of the tokens starts (rounded down to a multiple of
  eight and held inside the array), how far inside it the row's tokens begin, and when a place of the padded row holds a
  token. `v` is the row's split, `h` the half of the row, `u` the next row's split.
-/
module

public import Idealize.ShloMosaic.PureOps
public import Mathlib.Tactic.IntervalCases

@[expose] public section

noncomputable section

namespace Cert.Proof.Words

open Idealize.ShloMosaic

/-- A signed comparison of two words below `2^31` compares their naturals. -/
theorem slt_iff {a b : BitVec 32} (ha : a.toNat < 2147483648) (hb : b.toNat < 2147483648) :
    a.slt b = true ↔ a.toNat < b.toNat := by
  rw [BitVec.slt_iff_toInt_lt, BitVec.toInt_eq_toNat_cond, BitVec.toInt_eq_toNat_cond]
  split <;> split <;> omega

/-- Clearing a word's three low bits rounds it down to a multiple of eight. -/
theorem clear3 (x : BitVec 32) : (x &&& 4294967288#32).toNat = x.toNat / 8 * 8 := by
  have h : x &&& 4294967288#32 = (x >>> 3) <<< 3 := by
    apply BitVec.eq_of_getLsbD_eq
    intro i hi
    interval_cases i <;> simp <;> decide
  rw [h, BitVec.toNat_shiftLeft, BitVec.toNat_ushiftRight, Nat.shiftRight_eq_div_pow, Nat.shiftLeft_eq]
  have := x.isLt
  omega

/-- The first token of the tile's half row. -/
def src (v h : BitVec 32) : BitVec 32 := Scalar.addi v (Scalar.muli h 2048#32)
/-- The start of the tile's copy of the tokens. -/
def base (v h : BitVec 32) : BitVec 32 := Scalar.minsi (Scalar.andi (src v h) 4294967288#32) 30712#32
/-- The position of the half row's first token in the copy. -/
def rem (v h : BitVec 32) : BitVec 32 := Scalar.subi (src v h) (base v h)

variable {v h u : BitVec 32}

/-- The first token of the half row, as a natural number. -/
theorem src_toNat (hv : v.toNat ≤ 32768) (hh : h.toNat < 2) : (src v h).toNat = v.toNat + 2048 * h.toNat := by
  show (v + h * 2048#32).toNat = _
  rw [BitVec.toNat_add, BitVec.toNat_mul]
  show (v.toNat + h.toNat * 2048 % 4294967296) % 4294967296 = _
  omega

/-- The copy starts at the multiple of eight below it, held inside the array. -/
theorem base_toNat (hv : v.toNat ≤ 32768) (hh : h.toNat < 2) :
    (base v h).toNat = min ((v.toNat + 2048 * h.toNat) / 8 * 8) 30712 := by
  have hs := src_toNat hv hh
  have hc := clear3 (src v h)
  show (if (src v h &&& 4294967288#32).slt 30712#32 then src v h &&& 4294967288#32 else 30712#32).toNat = _
  have h3 : (30712#32).toNat = 30712 := rfl
  split
  · rename_i hlt
    rw [slt_iff (by omega) (by omega)] at hlt
    omega
  · rename_i hlt
    rw [slt_iff (by omega) (by omega)] at hlt
    omega

/-- The first token's position in the copy, as a natural number. -/
theorem rem_toNat (hv : v.toNat ≤ 32768) (hh : h.toNat < 2) :
    (rem v h).toNat = v.toNat + 2048 * h.toNat - min ((v.toNat + 2048 * h.toNat) / 8 * 8) 30712 := by
  have hs := src_toNat hv hh
  have hb := base_toNat hv hh
  show (src v h - base v h).toNat = _
  rw [BitVec.toNat_sub]
  omega

/-- The offset of a trip's sixteen lanes in the copy. -/
theorem rem_add_toNat (hv : v.toNat ≤ 32768) (hh : h.toNat < 2) {k : BitVec 32} (hk : k.toNat < 128) :
    (Scalar.addi (rem v h) (Scalar.muli k 16#32)).toNat
      = v.toNat + 2048 * h.toNat - min ((v.toNat + 2048 * h.toNat) / 8 * 8) 30712 + 16 * k.toNat := by
  have hr := rem_toNat hv hh
  show (rem v h + k * 16#32).toNat = _
  rw [BitVec.toNat_add, BitVec.toNat_mul]
  show ((rem v h).toNat + k.toNat * 16 % 4294967296) % 4294967296 = _
  omega

/-- A place of the row holds a token exactly where the row's split plus the place is before the next split. -/
theorem mask_iff (hv : v.toNat ≤ 32768) (hu : u.toNat ≤ 32768) (hh : h.toNat < 2) {k l : BitVec 32} (hk : k.toNat < 128)
    (hl : l.toNat < 16) :
    IntOp.cmpi .slt (IntOp.addi (Scalar.addi (Scalar.muli h 2048#32) (Scalar.muli k 16#32)) l)
        (Scalar.minsi (Scalar.subi u v) 4096#32) = 1
      ↔ v.toNat + (2048 * h.toNat + 16 * k.toNat + l.toNat) < u.toNat := by
  have hc : (IntOp.addi (Scalar.addi (Scalar.muli h 2048#32) (Scalar.muli k 16#32)) l).toNat
      = 2048 * h.toNat + 16 * k.toNat + l.toNat := by
    show (h * 2048#32 + k * 16#32 + l).toNat = _
    rw [BitVec.toNat_add, BitVec.toNat_add, BitVec.toNat_mul, BitVec.toNat_mul]
    show ((h.toNat * 2048 % 4294967296 + k.toNat * 16 % 4294967296) % 4294967296 + l.toNat) % 4294967296 = _
    omega
  have hd : (u - v).toInt = (u.toNat : Int) - v.toNat := by
    rw [BitVec.toInt_eq_toNat_cond, BitVec.toNat_sub]
    split <;> omega
  have hm : (Scalar.minsi (Scalar.subi u v) 4096#32).toInt = min ((u.toNat : Int) - v.toNat) 4096 := by
    show (if (u - v).slt 4096#32 then u - v else 4096#32).toInt = _
    have h4 : (4096#32).toInt = 4096 := rfl
    split
    · rename_i hlt
      rw [BitVec.slt_iff_toInt_lt] at hlt
      omega
    · rename_i hlt
      rw [BitVec.slt_iff_toInt_lt] at hlt
      omega
  show BitVec.ofBool (BitVec.slt _ _) = 1 ↔ _
  have hb : ∀ b : Bool, BitVec.ofBool b = 1 ↔ b = true := by decide
  rw [hb, BitVec.slt_iff_toInt_lt, hm, BitVec.toInt_eq_toNat_cond, hc]
  split <;> omega

end Cert.Proof.Words

end
-- ==== Proof.TileIdeal.lean ====
/-
  One tile of the kernel, at a symbolic SparseCore and subcore: where it reads and writes, what a trip of its loop stores, and
  its body run from start to end with the words it leaves.
-/
module

public import proofs.«01_k».proof.Defs
public import proofs.«01_k».proof.Proof.Lane
public import proofs.«01_k».proof.Proof.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Proof.Lane

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Where a tile works -/

/-- Tile `(c, s)` holds row `(16c + s) / 2` of the splits ... -/
theorem off1_eq : ∀ i : grid0.Coords, k0_off1 i = ![8 * (i 0).val + (i 1).val / 2] := by decide +kernel
/-- ... and writes 2048 words of the result from `2048·(16c + s)`. -/
theorem off5_eq : ∀ i : grid0.Coords, k0_off5 i = ![2048 * (16 * (i 0).val + (i 1).val)] := by decide +kernel

/-- The first offset in closed form, for the generated side conditions. -/
instance closedOff1 (i : grid0.Coords) : ClosedOff (k0_off1 i) := ⟨![8 * (i 0).val + (i 1).val / 2], off1_eq i⟩
/-- The result window's offset in closed form. -/
instance closedOff5 (i : grid0.Coords) : ClosedOff (k0_off5 i) := ⟨![2048 * (16 * (i 0).val + (i 1).val)], off5_eq i⟩

/-- Which half of its row a tile fills, as the body computes it: the tile's number modulo two, rounded towards minus infinity. -/
def halfWord (i : grid0.Coords) : BitVec 32 :=
  let v1 : BitVec 32 := Scalar.addi (Scalar.muli (BitVec.ofNat 32 (i 0).val) 16#32) (BitVec.ofNat 32 (i 1).val)
  let v20 : BitVec 32 := Scalar.select (Scalar.cmpi .eq 2#32 0#32) 1#32 2#32
  let v21 : BitVec 32 := Scalar.remsi v1 v20
  Scalar.select (Scalar.andi (Scalar.xori (Scalar.cmpi .slt v21 0#32) (Scalar.cmpi .slt v20 0#32)) (Scalar.cmpi .ne v21 0#32))
    (Scalar.addi v21 v20) v21

/-- It is the subcore's number modulo two. -/
theorem halfWord_eq : ∀ i : grid0.Coords, halfWord i = BitVec.ofNat 32 ((i 1).val % 2) := by decide +kernel

/-- The word the body asserts to be a multiple of eight is the start of the tile's copy. -/
theorem mult1_eq (i : grid0.Coords) (v : BitVec 32) : k0_mult1 i v = Words.base v (halfWord i) := rfl
/-- The copy of the tokens starts there. -/
theorem off2_eq (i : grid0.Coords) (v : BitVec 32) : k0_off2 i v = ![(Words.base v (halfWord i)).toNat] := rfl

/-- The number of a trip's group of sixteen lanes: two groups a trip. -/
def group (t : Fin k0_t1_loop.trips) (r : BitVec 32) : BitVec 32 := Scalar.addi (Scalar.muli (Scf.iv 0#32 1#32 t) 2#32) r
/-- The group of a trip's first and second sixteen lanes, as a natural number. -/
theorem group_toNat : ∀ (t : Fin k0_t1_loop.trips) (r : Fin 2), (group t (BitVec.ofNat 32 r.val)).toNat = 2 * t.val + r.val := by
  decide +kernel

/-- Where a trip reads sixteen tokens of the copy. -/
theorem off3_eq (i : grid0.Coords) (v : BitVec 32) (t : Fin k0_t1_loop.trips) (r : BitVec 32) :
    k0_off3 i v t r = ![(Scalar.addi (Words.rem v (halfWord i)) (Scalar.muli (group t r) 16#32)).toNat] := rfl

/-- A row has two halves. -/
theorem half_lt (i : grid0.Coords) : (halfWord i).toNat < 2 := by
  rw [halfWord_eq, BitVec.toNat_ofNat]; omega

/-- The side condition on a split read from memory holds of every split in range. -/
theorem chk1_of_le (i : grid0.Coords) (v : BitVec 32) (hv : v.toNat ≤ 32768) : k0_chk1 i v := by
  have hh := half_lt i
  refine ⟨?_, fun a => ?_, fun t r a => ?_⟩
  · rw [mult1_eq, Words.base_toNat hv hh]; omega
  · match a with
    | ⟨0, _⟩ =>
      show (Words.base v (halfWord i)).toNat + 2056 ≤ 32768
      rw [Words.base_toNat hv hh]; omega
  · match a with
    | ⟨0, _⟩ =>
      have ht : t.val < 64 := t.isLt
      have hr := r.isLt
      have hg := group_toNat t r
      show (Scalar.addi (Words.rem v (halfWord i)) (Scalar.muli (group t (BitVec.ofNat 32 r.val)) 16#32)).toNat + 16 ≤ 6160
      rw [Words.rem_add_toNat hv hh (by omega), hg]; omega

/-- The ghost state of the launch's handshakes ... -/
abbrev UH : Type := URounds (GSem nD τ sig) ℕ
/-- ... beside the counters of the local copies. -/
abbrev UU : Type := UH × Counters

local notation "𝕄" => MT nD τ sig (HIx 1) (Elt F) ℕ UU ℕ

/-- The body's loops need no variant. -/
abbrev 𝒱₀ : Variants := Variants.none

/-- The tokens, as a tile names them. -/
abbrev xV : Memref Cert.KernelIdeal.sig Kind.scVector Space.hbm Cert.KernelIdeal.S32768 EltTy.i32 := Memref.whole Cert.KernelIdeal.main_arg0_scv
/-- The row splits, as a tile names them. -/
abbrev uV : Memref Cert.KernelIdeal.sig Kind.scVector Space.hbm Cert.KernelIdeal.S17 EltTy.i32 := Memref.whole Cert.KernelIdeal.main_arg1_scv
/-- The flat result, as a tile names it. -/
abbrev oV : Memref Cert.KernelIdeal.sig Kind.scVector Space.hbm Cert.KernelIdeal.S65536 EltTy.i32 := Memref.whole Cert.KernelIdeal.main_v0_scv
/-- The tile's scratch for the splits. -/
abbrev sU : Memref Cert.KernelIdeal.sig Kind.scVector Space.vmem Cert.KernelIdeal.S32 EltTy.i32 := Memref.whole Cert.KernelIdeal.cc0_scratch0
/-- The tile's scratch for the tokens. -/
abbrev sX : Memref Cert.KernelIdeal.sig Kind.scVector Space.vmem Cert.KernelIdeal.S6160 EltTy.i32 := Memref.whole Cert.KernelIdeal.cc0_scratch1
/-- The tile's stage for its half row of the result. -/
abbrev sO : Memref Cert.KernelIdeal.sig Kind.scVector Space.vmem Cert.KernelIdeal.S2048 EltTy.i32 := Memref.whole Cert.KernelIdeal.cc0_scratch2

/-- The tile's window of the result. -/
abbrev oWin (L : grid0.Coords) : Memref sig .scVector .hbm S2048 .i32 :=
  (oV).slice (Rect.unit (s := S65536) (k0_off5 L) S2048.size (k0_off5_inb L)) (fun _ => rfl)

section Tile
variable [FloatOps F] (d : Dev nD) (L : grid0.Coords)

/-- The tile's SparseCore. -/
abbrev cV : Fin τ.nSC := (L 0).castLE hcore0
/-- The tile's subcore. -/
abbrev jV : Fin τ.nSub := (L 1).castLE hsub0
/-- The tile's thread. -/
abbrev VT : Thread nD τ := V d (cV L) (jV L)

/-- What the first part of the tile's body returns: the half of the row the tile fills, the splits from the tile's row on
    as sixteen lanes (those that exist), and the row's own split. -/
def Splits (fu : S17.Idx → BitVec 32) (r : Σ' (_ : BitVec 32) (_ : BitVec 32) (_ : IVec S16 32), BitVec 32) : Prop :=
  r.2.1 = BitVec.ofNat 32 ((L 1).val % 2)
    ∧ r.2.2.1 (at1 16 1) = fu (at1 17 (8 * (L 0).val + (L 1).val / 2 + 1))
    ∧ r.2.2.2 = fu (at1 17 (8 * (L 0).val + (L 1).val / 2))

omit [FloatOps F] in
/-- The sixteen lanes read from the split scratch are passed on as they are. -/
theorem pay6_apply (v : Vec F S16 .i32) (x : S16.Idx) : k0_pay6 v x = v x := by
  show v (Shape.reshapeEquiv _ x) = _
  rw [Shape.reshapeEquiv_self]

omit [FloatOps F] in
/-- The row's own split is the first of the sixteen lanes. -/
theorem pay7_apply (v : Vec F S16 .i32) : extractAt ![0] (k0_pay7 v) inpos_S1_p0 = v (at1 16 0) := by
  show v (Shape.reshapeEquiv _ _) = _
  rw [Shape.reshapeEquiv_self]
  exact congrArg v (at1_of_val _ rfl)

/-- The first part of the tile's body brings the splits in and returns what `Splits` says of them. -/
theorem part2_run (q : PosShare TreeShare) (O : CellTallies nD τ sig (HIx 1)) (W : Waits sig (HIx 1))
    (fu : Buf (Elt F) ((uV).view.loc (VT d L))) (g0 : Buf (Elt F) ((sU).view.loc (VT d L))) :
    (iprop(Transfers.MayWaits (VT d L) (default : HIx 1) O
        ∗ ((uV).view.loc (VT d L) ↦{q} fu)
        ∗ ((sU).view.loc (VT d L) ↦[(sU).view.set]{fullShare} g0)
        ∗ semVal (VT d L, SemLoc.dma cc0_scoped0.sem) 0
        ∗ owes (VT d L) O W) : sProp 𝕄)
      ⊢ wp frame (wpE (defs₀ (F := F)) 𝒱₀ (VT d L) none) Set.univ
          (k0_part2 L xV (Memref.isWhole_whole _) uV (Memref.isWhole_whole _) oV (Memref.isWhole_whole _)
            sU (Memref.isWhole_whole _) sX (Memref.isWhole_whole _) sO (Memref.isWhole_whole _) cc0_scoped0 cc0_scoped1 cc0_scoped2)
          fun r => iprop(⌜Splits L fu r⌝
            ∗ ((uV).view.loc (VT d L) ↦{q} fu)
            ∗ (∃ g, (sU).view.loc (VT d L) ↦[(sU).view.set]{fullShare} g)
            ∗ semVal (VT d L, SemLoc.dma cc0_scoped0.sem) 0
            ∗ ∃ W', owes (VT d L) O W') := by
  delta xV uV oV sU sX sO
  iintro ⟨#Hmw, HU, HS, HC, HO⟩
  rw [k0_part2_eq_skeleton]; unfold k0_part2_skel
  sl_exec
  sl_step
  isplitr
  · ipureintro
    have hv : ∀ j n : Nat, j < 16 → n < 17 → 8 * (L 0).val + (L 1).val / 2 + j = n →
        View.readAt (Elt F) (sU).view (Rect.unit (s := S32) (k0_off1 L) S16.size (k0_off1_inb L)).toLoadRect
          ((sU).view.writes (Elt F) g0 [⟨Rect.unit ![0] S17.size inb_S32_S17_0, part2_run.sl.dma0 d L fu⟩]) (at1 16 j) = fu (at1 17 n) := by
      intro j n hj hn hjn
      show (sU).view.read (Elt F) _ ((Rect.unit (s := S32) (k0_off1 L) S16.size (k0_off1_inb L)).emb (at1 16 j)) = _
      rw [View.read_writes_cons_hit_of_coords (sU).view g0 _ _ [] (at1 17 n) _ (fun a => ?_)]
      · rfl
      · match a with
        | ⟨0, _⟩ =>
          show k0_off1 L 0 + 1 * (at1 16 j 0).val = 0 + 1 * (at1 17 n 0).val
          rw [off1_eq, at1_val hj, at1_val hn]
          show 8 * (L 0).val + (L 1).val / 2 + 1 * j = 0 + 1 * n
          omega
    have h0 : (L 0).val < 2 := (L 0).isLt
    have h1 : (L 1).val < 16 := (L 1).isLt
    refine ⟨?_, ?_, ?_⟩
    · show halfWord L = _
      exact halfWord_eq L
    · exact (pay6_apply _ _).trans (hv 1 _ (by omega) (by omega) rfl)
    · unfold part2_run.sl.v33
      exact (pay7_apply _).trans (hv 0 _ (by omega) (by omega) rfl)
  sl_close

omit [FloatOps F] in
/-- The lane numbers. -/
theorem iota_apply (j : S16.Idx) : iota .scVector S16 32 [0] iota_S16_d0_w32_scVector j = BitVec.ofNat 32 (j 0).val := by
  unfold iota
  simp

/-- What a trip stores for its first sixteen lanes: the hash where the column lies in the row, else zero. -/
theorem pay3_apply (v37 h : BitVec 32) (t : Fin k0_t1_loop.trips) (x : Vec F S16 .i32) (j : S16.Idx) :
    k0_pay3 (F := F) v37 (Scalar.muli h 2048#32) (iota .scVector S16 32 [0] iota_S16_d0_w32_scVector) (Scalar.ofBits .f32 0x3727C5AC#32)
        100000#32 0#32 1#32 t x j
      = Scalar.select (IntOp.cmpi .slt (IntOp.addi (Scalar.addi (Scalar.muli h 2048#32) (Scalar.muli (group t 0#32) 16#32))
          (BitVec.ofNat 32 (j 0).val)) v37) (hash F (x j)) 0#32 := by
  unfold k0_pay3
  simp only [shapeCast_self]
  rw [← iota_apply]
  rfl

/-- The second lane of the splits read is the next row's split. -/
theorem extract1 (v31 : IVec S16 32) : extractAt ![0] (k0_pay1 v31) inpos_S1_p0 = v31 (at1 16 1) :=
  congrArg v31 (at1_of_val _ rfl)

/-- What a trip stores for its second sixteen lanes: the same. -/
theorem pay2_apply (h v33 : BitVec 32) (v31 : IVec S16 32) (t : Fin k0_t1_loop.trips) (x : Vec F S16 .i32) (j : S16.Idx) :
    k0_pay2 h v31 v33 (group t 1#32) (k0_pay4 (F := F) x) (k0_pay5 (Scalar.ofBits .f32 0x3727C5AC#32) x) j
      = Scalar.select (IntOp.cmpi .slt (IntOp.addi (Scalar.addi (Scalar.muli h 2048#32) (Scalar.muli (group t 1#32) 16#32))
          (BitVec.ofNat 32 (j 0).val)) (Scalar.minsi (Scalar.subi (extractAt ![0] (k0_pay1 v31) inpos_S1_p0) v33) 4096#32))
          (hash F (x j)) 0#32 := by
  unfold k0_pay2 k0_pay5 k0_pay4
  simp only [shapeCast_self]
  rw [← iota_apply]
  rfl

/-- The tile's copy of the tokens: 2056 of them from its base on. -/
def Copied (v33 : BitVec 32) (fx : S32768.Idx → BitVec 32) (B : S6160.Idx → BitVec 32) : Prop :=
  ∀ n, n < 2056 → B (at1 6160 n) = fx (at1 32768 ((Words.base v33 (halfWord L)).toNat + n))

variable (F) in
/-- The first `m` words of the tile's stage are the padded batch's. -/
def Filled (fx : S32768.Idx → BitVec 32) (fu : S17.Idx → BitVec 32) (m : Nat) (f : S2048.Idx → BitVec 32) : Prop :=
  ∀ n, n < m → f (at1 2048 n) = cell F fx fu (2048 * (16 * (L 0).val + (L 1).val) + n)

/-- One lane of a group's payload is the padded batch's word there: a lane that holds a token reads inside the copy. -/
theorem lane_eq (fx : S32768.Idx → BitVec 32) (fu : S17.Idx → BitVec 32) (hcu : ∀ j, (fu j).toNat ≤ 32768)
    (v31 : IVec S16 32) (v33 : BitVec 32)
    (h31 : v31 (at1 16 1) = fu (at1 17 (8 * (L 0).val + (L 1).val / 2 + 1)))
    (h33 : v33 = fu (at1 17 (8 * (L 0).val + (L 1).val / 2)))
    (t : Fin k0_t1_loop.trips) (r : Fin 2) (B : S6160.Idx → BitVec 32) (hB : Copied L v33 fx B)
    (inb : ∀ a, k0_off3 L v33 t (BitVec.ofNat 32 r.val) a + S16.size a ≤ S6160.size a) (j : Nat) (hj : j < 16) :
    Scalar.select (IntOp.cmpi .slt (IntOp.addi (Scalar.addi (Scalar.muli (halfWord L) 2048#32)
          (Scalar.muli (group t (BitVec.ofNat 32 r.val)) 16#32)) (BitVec.ofNat 32 (at1 16 j 0).val))
          (Scalar.minsi (Scalar.subi (extractAt ![0] (k0_pay1 v31) inpos_S1_p0) v33) 4096#32))
        (hash F (B ((Rect.unit (s := S6160) (k0_off3 L v33 t (BitVec.ofNat 32 r.val)) S16.size inb).emb (at1 16 j)))) 0#32
      = cell F fx fu (2048 * (16 * (L 0).val + (L 1).val) + (32 * t.val + 16 * r.val + j)) := by
  have h0 : (L 0).val < 2 := (L 0).isLt
  have h1 : (L 1).val < 16 := (L 1).isLt
  have ht : t.val < 64 := t.isLt
  have hr := r.isLt
  have hg := group_toNat t r
  have hh := half_lt L
  have hw : (halfWord L).toNat = (L 1).val % 2 := by rw [halfWord_eq, BitVec.toNat_ofNat]; omega
  have hv : v33.toNat ≤ 32768 := h33 ▸ hcu _
  have hu : (v31 (at1 16 1)).toNat ≤ 32768 := h31 ▸ hcu _
  have hj' : (BitVec.ofNat 32 (at1 16 j 0).val).toNat = j := by
    rw [at1_val hj, BitVec.toNat_ofNat]; omega
  have hd : (2048 * (16 * (L 0).val + (L 1).val) + (32 * t.val + 16 * r.val + j)) / 4096 = 8 * (L 0).val + (L 1).val / 2 := by omega
  have hm : (2048 * (16 * (L 0).val + (L 1).val) + (32 * t.val + 16 * r.val + j)) % 4096
      = 2048 * ((L 1).val % 2) + (32 * t.val + 16 * r.val + j) := by omega
  have hmask := Words.mask_iff hv hu hh (k := group t (BitVec.ofNat 32 r.val)) (l := BitVec.ofNat 32 (at1 16 j 0).val)
    (by omega) (by omega)
  rw [extract1]
  unfold cell Scalar.select
  rw [hd, hm, ← h31, ← h33]
  by_cases hc : v33.toNat + (2048 * ((L 1).val % 2) + (32 * t.val + 16 * r.val + j)) < (v31 (at1 16 1)).toNat
  · rw [if_pos (hmask.mpr (by rw [hw, hg, hj']; omega)), if_pos hc]
    have hb := Words.base_toNat hv hh
    have hra := Words.rem_add_toNat hv hh (k := group t (BitVec.ofNat 32 r.val)) (by omega)
    rw [hw] at hb hra
    have e : (Rect.unit (s := S6160) (k0_off3 L v33 t (BitVec.ofNat 32 r.val)) S16.size inb).emb (at1 16 j)
        = at1 6160 (v33.toNat + 2048 * ((L 1).val % 2) + (32 * t.val + 16 * r.val + j) - (Words.base v33 (halfWord L)).toNat) := by
      refine at1_of_val _ ?_
      show (Scalar.addi (Words.rem v33 (halfWord L)) (Scalar.muli (group t (BitVec.ofNat 32 r.val)) 16#32)).toNat + 1 * (at1 16 j 0).val = _
      rw [at1_val hj, hra]; omega
    rw [e, hB _ (by omega)]
    congr 3
    omega
  · rw [if_neg (fun h => hc (by have := hmask.mp h; rw [hw, hg, hj'] at this; omega)), if_neg hc]

/-- A trip's two stores carry the stage on by thirty-two words. -/
theorem filled_step (fx : S32768.Idx → BitVec 32) (fu : S17.Idx → BitVec 32) (t : Fin k0_t1_loop.trips)
    (f : Buf (Elt F) ((sO).view.loc (VT d L))) (hf : Filled F L fx fu (32 * t.val) f) (w0 w1 : S16.Idx → BitVec 32)
    (hw0 : ∀ j, j < 16 → w0 (at1 16 j)
      = cell F fx fu (2048 * (16 * (L 0).val + (L 1).val) + (32 * t.val + 16 * (0 : Fin 2).val + j)))
    (hw1 : ∀ j, j < 16 → w1 (at1 16 j)
      = cell F fx fu (2048 * (16 * (L 0).val + (L 1).val) + (32 * t.val + 16 * (1 : Fin 2).val + j))) :
    Filled F L fx fu (32 * (t.val + 1)) ((sO).view.writes (Elt F) f
      [⟨Rect.unit (s := S2048) (k0_off4 t 1#32) S16.size (k0_off4_inb t 1), w1⟩,
        ⟨Rect.unit (s := S2048) (k0_off4 t 0#32) S16.size (k0_off4_inb t 0), w0⟩]) := by
  intro n hn
  have ht : t.val < 64 := t.isLt
  show (sO).view.read (Elt F) ((sO).view.writes (Elt F) f
      [⟨Rect.unit (s := S2048) (k0_off4 t 1#32) S16.size (k0_off4_inb t 1), w1⟩,
        ⟨Rect.unit (s := S2048) (k0_off4 t 0#32) S16.size (k0_off4_inb t 0), w0⟩]) (at1 2048 n)
    = cell F fx fu (2048 * (16 * (L 0).val + (L 1).val) + n)
  by_cases hn1 : 32 * t.val + 16 ≤ n
  · obtain ⟨j, rfl⟩ : ∃ j, n = 32 * t.val + 16 * (1 : Fin 2).val + j := ⟨n - (32 * t.val + 16), by simp; omega⟩
    have hj : j < 16 := by simp at hn; omega
    refine (View.read_writes_cons_hit_of_coords (sO).view f _ _ _ (at1 16 j) _ (fun a => ?_)).trans (hw1 j hj)
    match a with
    | ⟨0, _⟩ =>
      show (at1 2048 (32 * t.val + 16 * (1 : Fin 2).val + j) 0).val = k0_off4 t (BitVec.ofNat 32 (1 : Fin 2).val) 0 + 1 * (at1 16 j 0).val
      rw [k0_off4_eq, at1_val hj, at1_val (by simp; omega)]
      show _ = 32 * t.val + 16 * (1 : Fin 2).val + 1 * j
      omega
  · refine (View.read_writes_cons_miss_of_axis (sO).view f _ _ (at1 2048 n) 0 (32 * t.val + 16 * (1 : Fin 2).val) 16
      (by show k0_off4 t (BitVec.ofNat 32 (1 : Fin 2).val) 0 = _; rw [k0_off4_eq]; rfl) rfl rfl
      (by rw [at1_val (by omega)]; simp; omega)).trans ?_
    by_cases hn0 : 32 * t.val ≤ n
    · obtain ⟨j, rfl⟩ : ∃ j, n = 32 * t.val + 16 * (0 : Fin 2).val + j := ⟨n - 32 * t.val, by simp; omega⟩
      have hj : j < 16 := by simp at hn1; omega
      refine (View.read_writes_cons_hit_of_coords (sO).view f _ _ _ (at1 16 j) _ (fun a => ?_)).trans (hw0 j hj)
      match a with
      | ⟨0, _⟩ =>
        show (at1 2048 (32 * t.val + 16 * (0 : Fin 2).val + j) 0).val = k0_off4 t (BitVec.ofNat 32 (0 : Fin 2).val) 0 + 1 * (at1 16 j 0).val
        rw [k0_off4_eq, at1_val hj, at1_val (by simp; omega)]
        show _ = 32 * t.val + 16 * (0 : Fin 2).val + 1 * j
        omega
    · refine (View.read_writes_cons_miss_of_axis (sO).view f _ _ (at1 2048 n) 0 (32 * t.val + 16 * (0 : Fin 2).val) 16
        (by show k0_off4 t (BitVec.ofNat 32 (0 : Fin 2).val) 0 = _; rw [k0_off4_eq]; rfl) rfl rfl
        (by rw [at1_val (by omega)]; simp; omega)).trans ?_
      exact hf n (by omega)

/-- The whole scratch read at a word. -/
theorem read_stage (B : Buf (Elt F) ((sX).view.loc (VT d L))) (x : S6160.Idx) : (sX).view.read (Elt F) B x = B x := rfl

/-- The tile's window of the result read at a word. -/
theorem read_window (B : Buf (Elt F) ((oV).view.loc (VT d L))) (x : S2048.Idx) :
    (oWin L).view.read (Elt F) B x = B ((Rect.unit (s := S65536) (k0_off5 L) S2048.size (k0_off5_inb L)).emb x) := rfl

/-- What the copy of the tokens leaves in the tile's buffer. -/
theorem copied (v33 : BitVec 32) (fx : Buf (Elt F) ((xV).view.loc (VT d L))) (gX : Buf (Elt F) ((sX).view.loc (VT d L)))
    (hk1 : k0_chk1 L v33) :
    Copied L v33 fx ((sX).view.writes (Elt F) gX [⟨Rect.unit (s := S6160) ![0] S2056.size inb_S6160_S2056_0,
      ((xV).slice (Rect.unit (s := S32768) (k0_off2 L v33) S2056.size (k0_off2_inb L v33 hk1)) (fun _ => rfl)).view.read (Elt F) fx⟩]) := by
  intro n hn
  have hb := hk1.2.1 0
  rw [off2_eq] at hb
  replace hb : (Words.base v33 (halfWord L)).toNat + 2056 ≤ 32768 := hb
  refine (read_stage d L _ _).symm.trans ?_
  rw [View.read_writes_cons_hit_of_coords (sX).view gX (Rect.unit (s := S6160) ![0] S2056.size inb_S6160_S2056_0) _ [] (at1 2056 n) (at1 6160 n) (fun a => ?_)]
  · have e : (Rect.unit (s := S32768) (k0_off2 L v33) S2056.size (k0_off2_inb L v33 hk1)).emb (at1 2056 n)
        = at1 32768 ((Words.base v33 (halfWord L)).toNat + n) := by
      refine at1_of_val _ ?_
      show (Words.base v33 (halfWord L)).toNat + 1 * (at1 2056 n 0).val = _
      rw [at1_val hn, Nat.one_mul]
    show fx ((Rect.unit (s := S32768) (k0_off2 L v33) S2056.size (k0_off2_inb L v33 hk1)).emb (at1 2056 n)) = _
    rw [e]
  · match a with
    | ⟨0, _⟩ =>
      show (at1 6160 n 0).val = 0 + 1 * (at1 2056 n 0).val
      rw [at1_val hn, at1_val (by omega), Nat.one_mul, Nat.zero_add]

/-- What the copy back leaves in the tile's window of the result. -/
theorem landed (fx : S32768.Idx → BitVec 32) (fu : S17.Idx → BitVec 32) (fo : Buf (Elt F) ((oV).view.loc (VT d L)))
    (f : Buf (Elt F) ((sO).view.loc (VT d L))) (hf : Filled F L fx fu 2048 f) (n : Nat) (hn : n < 2048) :
    (oWin L).view.writes (Elt F) fo [⟨Rect.whole S2048, (sO).view.read (Elt F) f⟩] (at1 65536 (2048 * (16 * (L 0).val + (L 1).val) + n))
      = cell F fx fu (2048 * (16 * (L 0).val + (L 1).val) + n) := by
  have h0 : (L 0).val < 2 := (L 0).isLt
  have h1 : (L 1).val < 16 := (L 1).isLt
  have e : at1 65536 (2048 * (16 * (L 0).val + (L 1).val) + n) = (Rect.unit (s := S65536) (k0_off5 L) S2048.size (k0_off5_inb L)).emb (at1 2048 n) := by
    refine (at1_of_val _ ?_).symm
    show k0_off5 L 0 + 1 * (at1 2048 n 0).val = _
    rw [off5_eq, at1_val hn, Nat.one_mul]; rfl
  rw [e]
  refine (read_window d L _ _).symm.trans ?_
  rw [View.read_writes_cons_hit_of_coords (oWin L).view fo (Rect.whole S2048) ((sO).view.read (Elt F) f) [] (at1 2048 n) (at1 2048 n) (fun a => ?_)]
  · exact hf n hn
  · show (at1 2048 n a).val = 0 + 1 * (at1 2048 n a).val
    rw [Nat.one_mul, Nat.zero_add]

/-- One trip of the loop fills the next 32 words of the stage, and reads no more than the copy of the tokens. -/
theorem trip_run (fx : S32768.Idx → BitVec 32) (fu : S17.Idx → BitVec 32) (hcu : ∀ j, (fu j).toNat ≤ 32768)
    (v31 : IVec S16 32) (v33 v43 : BitVec 32) (hk1 : k0_chk1 L v33)
    (h31 : v31 (at1 16 1) = fu (at1 17 (8 * (L 0).val + (L 1).val / 2 + 1)))
    (h33 : v33 = fu (at1 17 (8 * (L 0).val + (L 1).val / 2)))
    (t : Fin k0_t1_loop.trips)
    (B : Buf (Elt F) ((sX).view.loc (VT d L))) (hB : Copied L v33 fx B)
    (f : Buf (Elt F) ((sO).view.loc (VT d L))) (hf : Filled F L fx fu (32 * t.val) f) :
    (iprop(((sX).view.loc (VT d L) ↦[(sX).view.set]{fullShare} B)
        ∗ ((sO).view.loc (VT d L) ↦[(sO).view.set]{fullShare} f)) : sProp 𝕄)
      ⊢ wp frame (wpE (defs₀ (F := F)) 𝒱₀ (VT d L) none) Set.univ
          (k0_t1_body L xV (Memref.isWhole_whole _) uV (Memref.isWhole_whole _) oV (Memref.isWhole_whole _)
            sU (Memref.isWhole_whole _) sX (Memref.isWhole_whole _) sO (Memref.isWhole_whole _) cc0_scoped0 cc0_scoped1 cc0_scoped2
            (halfWord L) v31 v33 hk1
            (Scalar.minsi (Scalar.subi (extractAt ![0] (k0_pay1 v31) inpos_S1_p0) v33) 4096#32) v43 (Scalar.muli (halfWord L) 2048#32)
            (iota .scVector S16 32 [0] iota_S16_d0_w32_scVector) (Scalar.ofBits .f32 0x3727C5AC#32) t ())
          fun _ => iprop(((sX).view.loc (VT d L) ↦[(sX).view.set]{fullShare} B)
            ∗ ∃ f, ⌜Filled F L fx fu (32 * (t.val + 1)) f⌝ ∗ ((sO).view.loc (VT d L) ↦[(sO).view.set]{fullShare} f)) := by
  delta xV uV oV sU sX sO
  iintro ⟨HX, HO⟩
  unfold k0_t1_body; rw [k0_part1_eq_skeleton]; unfold k0_part1_skel
  sl_exec
  sl_step
  isplitl [HX]; · iexact HX
  iexists _
  isplitr
  swap
  · iexact HO
  ipureintro
  exact filled_step d L fx fu t f hf _ _
    (fun j hj => (pay3_apply _ _ _ _ _).trans (lane_eq L fx fu hcu v31 v33 h31 h33 t 0 B hB (k0_off3_inb L v33 hk1 t 0) j hj))
    (fun j hj => (pay2_apply _ _ _ _ _ _).trans (lane_eq L fx fu hcu v31 v33 h31 h33 t 1 B hB (k0_off3_inb L v33 hk1 t 1) j hj))

/-- The loop's invariant: the tile's copy of the tokens, and its stage filled up to the trip. -/
def inv (fx : S32768.Idx → BitVec 32) (fu : S17.Idx → BitVec 32) (v33 : BitVec 32) (t : Nat) (_ : PUnit) : sProp 𝕄 :=
  iprop((∃ B : Buf (Elt F) ((sX).view.loc (VT d L)), ⌜Copied L v33 fx B⌝ ∗ ((sX).view.loc (VT d L) ↦[(sX).view.set]{fullShare} B))
    ∗ ∃ f : Buf (Elt F) ((sO).view.loc (VT d L)), ⌜Filled F L fx fu (32 * t) f⌝ ∗ ((sO).view.loc (VT d L) ↦[(sO).view.set]{fullShare} f))

/-- The tile's whole body: from its read shares of the tokens and the splits, its window of the result and its own scratch and
    counters, it ends with the window holding the padded batch's words, the arguments as they were and its counters at zero. -/
theorem tile_run (q q' : PosShare TreeShare) (O : CellTallies nD τ sig (HIx 1)) (W : Waits sig (HIx 1))
    (fx : Buf (Elt F) ((xV).view.loc (VT d L))) (fu : Buf (Elt F) ((uV).view.loc (VT d L))) (fo : Buf (Elt F) ((oV).view.loc (VT d L)))
    (hcu : ∀ j : S17.Idx, BitVec.toNat (w := 32) (fu j) ≤ 32768)
    (gU : Buf (Elt F) ((sU).view.loc (VT d L))) (gX : Buf (Elt F) ((sX).view.loc (VT d L))) (gO : Buf (Elt F) ((sO).view.loc (VT d L))) :
    (iprop(Transfers.MayWaits (VT d L) (default : HIx 1) O
        ∗ ((xV).view.loc (VT d L) ↦{q} fx)
        ∗ ((uV).view.loc (VT d L) ↦{q'} fu)
        ∗ ((oWin L).view.loc (VT d L) ↦[(oWin L).view.set]{fullShare} fo)
        ∗ ((sU).view.loc (VT d L) ↦[(sU).view.set]{fullShare} gU)
        ∗ ((sX).view.loc (VT d L) ↦[(sX).view.set]{fullShare} gX)
        ∗ ((sO).view.loc (VT d L) ↦[(sO).view.set]{fullShare} gO)
        ∗ semVal (VT d L, SemLoc.dma cc0_scoped0.sem) 0
        ∗ semVal (VT d L, SemLoc.dma cc0_scoped1.sem) 0
        ∗ semVal (VT d L, SemLoc.dma cc0_scoped2.sem) 0
        ∗ owes (VT d L) O W) : sProp 𝕄)
      ⊢ wp frame (wpE (defs₀ (F := F)) 𝒱₀ (VT d L) none) Set.univ
          (cc0__body L xV (Memref.isWhole_whole _) uV (Memref.isWhole_whole _) oV (Memref.isWhole_whole _)
            sU (Memref.isWhole_whole _) sX (Memref.isWhole_whole _) sO (Memref.isWhole_whole _) cc0_scoped0 cc0_scoped1 cc0_scoped2)
          fun _ => iprop(((xV).view.loc (VT d L) ↦{q} fx)
            ∗ ((uV).view.loc (VT d L) ↦{q'} fu)
            ∗ (∃ f, ⌜∀ n, n < 2048 → f (at1 65536 (2048 * (16 * (L 0).val + (L 1).val) + n))
                  = cell F fx fu (2048 * (16 * (L 0).val + (L 1).val) + n)⌝
                ∗ (oWin L).view.loc (VT d L) ↦[(oWin L).view.set]{fullShare} f)
            ∗ (∃ g, (sU).view.loc (VT d L) ↦[(sU).view.set]{fullShare} g)
            ∗ (∃ g, (sX).view.loc (VT d L) ↦[(sX).view.set]{fullShare} g)
            ∗ (∃ g, (sO).view.loc (VT d L) ↦[(sO).view.set]{fullShare} g)
            ∗ semVal (VT d L, SemLoc.dma cc0_scoped0.sem) 0
            ∗ semVal (VT d L, SemLoc.dma cc0_scoped1.sem) 0
            ∗ semVal (VT d L, SemLoc.dma cc0_scoped2.sem) 0
            ∗ ∃ W', owes (VT d L) O W') := by
  delta oWin xV uV oV sU sX sO
  iintro ⟨#Hmw, HX, HU, HY, HSU, HSX, HSO, HC0, HC1, HC2, HO⟩
  rw [cc0__body_eq_skeleton]; unfold cc0__body_skel
  rw [wp_bind]
  iapply (wp_wand_r Idealize.ShloMosaic.frame (wpE (defs₀ (F := F)) 𝒱₀ (VT d L) none) Set.univ)
  isplitl [HU HSU HC0 HO]
  · iapply (part2_run d L q' O W fu gU)
    isplitr; · iexact Hmw
    isplitl [HU]; · iexact HU
    isplitl [HSU]; · iexact HSU
    isplitl [HC0]; · iexact HC0
    iexact HO
  iintro %r ⟨%hr, HU, ⟨%gU', HSU⟩, HC0, ⟨%W1, HO⟩⟩
  obtain ⟨v18, v28, v31, v33⟩ := r
  obtain ⟨h28, h31, h33⟩ := hr
  have h28' : v28 = halfWord L := h28.trans (halfWord_eq L).symm
  subst h28'
  have hk1 : k0_chk1 L v33 := chk1_of_le L v33 (by rw [show v33 = _ from h33]; exact hcu _)
  sl_exec
  sl_for (inv d L fx fu v33) $$ [HSX HSO]
  case region =>
    intro t _
    unfold inv
    iintro ⟨⟨%B, %hB, HX⟩, ⟨%f, %hf, HO⟩⟩
    iapply (wp_wand_r Idealize.ShloMosaic.frame (wpE (defs₀ (F := F)) 𝒱₀ (VT d L) none) Set.univ)
    isplitl [HX HO]
    · iapply (trip_run d L fx fu hcu v31 v33 (tile_run.sl.v43 L v33) hk1 h31 h33 t B hB f hf)
      isplitl [HX]; · iexact HX
      iexact HO
    iintro %_ ⟨HX, %f', %hf', HO⟩
    isplitl [HX]
    · iexists B; isplitr
      · ipureintro; exact hB
      · iexact HX
    iexists f'; isplitr
    · ipureintro; exact hf'
    · iexact HO
  · unfold inv
    isplitl [HSX]
    · iexists _; isplitr
      swap
      · iexact HSX
      ipureintro
      exact copied d L v33 fx gX hk1
    iexists gO; isplitr
    · ipureintro; intro n hn; omega
    · iexact HSO
  iintro %_ HI
  unfold inv
  icases HI with ⟨⟨%B, %hB, HSX⟩, ⟨%f, %hf, HSO⟩⟩
  sl_exec
  sl_step
  isplitl [HX]; · iexact HX
  isplitl [HU]; · iexact HU
  isplitl [HY]
  · iexists _; isplitr
    swap
    · iexact HY
    ipureintro
    exact landed d L fx fu fo f hf
  sl_close

end Tile
end Cert.Proof.KernelIdeal
end
-- ==== Proof.RunIdeal.lean ====
/-
  The launch: how the arrays split among the 32 tiles and join, @main on the TensorCore, and the program's run with its result.
-/
module

public import proofs.«01_k».proof.Proof.TileIdeal

@[expose] public section

noncomputable section

namespace Cert.Proof.KernelIdeal

open Cert.KernelIdeal Cert.KernelIdeal.Gen Cert.Proof.Lane

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

/-- The program's labels. -/
abbrev ΛP : Labels := Pipeline.Sig Λ₀ (Fin 0) fun p => (pcfgs (F := F) p).Adm
/-- The program's one SparseCore launch. -/
abbrev K : SparseCore.Cfg τ sig (ΛP (F := F)) 1 := sc (F := F)
/-- It runs on sixteen subcores ... -/
theorem nSub_eq : (K (F := F)).nSub 0 = 16 := rfl
/-- ... of each of two SparseCores. -/
theorem nCore_eq : (K (F := F)).nCore 0 = 2 := rfl
/-- The program's bodies. -/
abbrev D [FloatOps F] : Defs nD τ sig (Elt F) (ΛP (F := F)) := Pipeline.defs pcfgs defs₀
/-- They need no variant. -/
abbrev 𝒱 : Variants := 𝒱₀.lift
/-- The variant's only value. -/
abbrev v₀ : 𝒱.V := Sum.inl none

/-- The launch's semaphores are distinct and of the right scopes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- Where the handshakes' ghost state stands. -/
abbrev EH : Emb UH (MT nD τ sig (HIx 1) (Elt F) ℕ UU ℕ) := embL

/-! ## The arrays and the tiles' windows of the result -/

variable (m : (ℓ : Loc nD τ sig) → Buf (Elt F) ℓ) (ρ : Dev nD → PrngReg)

/-- The tokens' array. -/
abbrev fLoc (d : Dev nD) : Loc nD τ sig := (SparseCore.T d).loc main_arg0
/-- The row splits' array. -/
abbrev uLoc (d : Dev nD) : Loc nD τ sig := (SparseCore.T d).loc main_arg1
/-- The flat result's array. -/
abbrev oLoc (d : Dev nD) : Loc nD τ sig := (SparseCore.T d).loc main_v0
/-- The result's array. -/
abbrev rLoc (d : Dev nD) : Loc nD τ sig := (SparseCore.T d).loc main_v1

/-- The grid coordinates of tile `i` of SparseCore `c`. -/
def coordsV (c : Fin 2) (i : Fin 16) : grid0.Coords :=
  fun | 0 => c | 1 => i | ⟨_ + 2, h⟩ => absurd h (Nat.not_lt.2 (Nat.le_add_left _ _))

/-- The words of the result that tile `p` writes. -/
abbrev winSet (p : Fin 2 × Fin 16) : Finset S65536.Idx := (oWin (coordsV p.1 p.2)).view.set

/-- They are 2048 words, from 2048 times the tile's number on. -/
theorem mem_winSet (p : Fin 2 × Fin 16) (x : S65536.Idx) :
    x ∈ winSet p ↔ 2048 * (16 * p.1.val + p.2.val) ≤ (x 0).val ∧ (x 0).val < 2048 * (16 * p.1.val + p.2.val) + 2048 := by
  have e : winSet p = (Rect.unit (s := S65536) (k0_off5 (coordsV p.1 p.2)) S2048.size (k0_off5_inb (coordsV p.1 p.2))).set := by
    show ((View.whole (main_v0_scv : Ref sig .scVector)).slice _).set = _
    rw [View.set_slice]; exact Finset.map_refl
  rw [e, Rect.mem_set_unit]
  have ho : k0_off5 (coordsV p.1 p.2) 0 = 2048 * (16 * p.1.val + p.2.val) := by rw [off5_eq]; rfl
  constructor
  · intro h
    have h0 := h 0
    rw [ho] at h0
    exact h0
  · intro h a
    match a with
    | ⟨0, _⟩ =>
      show k0_off5 (coordsV p.1 p.2) 0 ≤ (x 0).val ∧ (x 0).val < k0_off5 (coordsV p.1 p.2) 0 + 2048
      rw [ho]; exact h

/-- No two tiles write the same word ... -/
theorem winSet_disjoint : ∀ p ∈ (Finset.univ : Finset (Fin 2 × Fin 16)), ∀ p' ∈ (Finset.univ : Finset (Fin 2 × Fin 16)),
    p ≠ p' → Disjoint (winSet p) (winSet p') := by
  intro p _ p' _ h
  refine Finset.disjoint_left.mpr fun x hx hx' => h ?_
  have h1 := (mem_winSet p x).mp hx
  have h2 := (mem_winSet p' x).mp hx'
  have a := p.2.isLt
  have b := p'.2.isLt
  exact Prod.ext (Fin.ext (by omega)) (Fin.ext (by omega))

/-- ... and together they write every word. -/
theorem winSet_cover : (Finset.univ : Finset (Fin 2 × Fin 16)).biUnion winSet = Finset.univ := by
  refine Finset.eq_univ_of_forall fun x => Finset.mem_biUnion.mpr ?_
  have h0 : (x 0).val < 65536 := (x 0).isLt
  refine ⟨(⟨(x 0).val / 32768, by omega⟩, ⟨(x 0).val / 2048 % 16, by omega⟩), Finset.mem_univ _, (mem_winSet _ x).mpr ?_⟩
  show 2048 * (16 * ((x 0).val / 32768) + (x 0).val / 2048 % 16) ≤ (x 0).val ∧ (x 0).val < 2048 * (16 * ((x 0).val / 32768) + (x 0).val / 2048 % 16) + 2048
  omega

/-- A SparseCore's share of an array that every tile reads: half of it. -/
abbrev coreShare (c : Fin 2) : PosShare TreeShare := if c = 0 then fullShare.left else fullShare.right
/-- Tile `i`'s read share of that. -/
abbrev tileShare (c : Fin 2) (i : Fin 16) : PosShare TreeShare := Transfers.shareTok (coreShare c) 16 i

variable [FloatOps F]

/-- The padded batch, flat, as the kernel leaves it. -/
def outBuf (d : Dev nD) : Buf (Elt F) (oLoc d) := fun w : S65536.Idx => cell F (m (fLoc d)) (m (uLoc d)) (w 0).val

/-! ## What the handshakes carry -/

/-- A share of the tokens, as launched. -/
abbrev fPts (d : Dev nD) (q : PosShare TreeShare) : sProp 𝕄 := fLoc d ↦{q} m (fLoc d)
/-- A share of the splits, as launched. -/
abbrev uPts (d : Dev nD) (q : PosShare TreeShare) : sProp 𝕄 := uLoc d ↦{q} m (uLoc d)
/-- A tile's window of the flat result, at `f`. -/
abbrev wPts (d : Dev nD) (c : Fin 2) (i : Fin 16) (f : Buf (Elt F) (oLoc d)) : sProp 𝕄 := oLoc d ↦[winSet (c, i)]{fullShare} f

/-- What a SparseCore is handed and hands back: its halves of the tokens and the splits, its tiles' windows at `f`. -/
abbrev coreRes (d : Dev nD) (c : Fin 2) (f : Buf (Elt F) (oLoc d)) : sProp 𝕄 :=
  iprop(fPts m d (coreShare c) ∗ uPts m d (coreShare c) ∗ bigSep Finset.univ fun i : Fin 16 => wPts d c i f)
/-- What a tile is handed and hands back: its read shares, its window at `f`. -/
abbrev tileRes (d : Dev nD) (c : Fin 2) (i : Fin 16) (f : Buf (Elt F) (oLoc d)) : sProp 𝕄 :=
  iprop(fPts m d (tileShare c i) ∗ uPts m d (tileShare c i) ∗ wPts d c i f)

/-- What the handshakes carry: to a SparseCore and its tiles their resources with the result as launched, back the same with the
    padded batch in it. -/
def P : (K (F := F)).Pay (nD := nD) (Val := Elt F) (Name := ℕ) (U := UU) where
  st := fun q d c => match q with | 0 => coreRes m d (Fin.cast nCore_eq c) (m (oLoc d))
  dn := fun q d c => match q with | 0 => coreRes m d (Fin.cast nCore_eq c) (outBuf m d)
  go := fun q d c i => match q with | 0 => tileRes m d (Fin.cast nCore_eq c) (Fin.cast nSub_eq i) (m (oLoc d))
  td := fun q d c i => match q with | 0 => tileRes m d (Fin.cast nCore_eq c) (Fin.cast nSub_eq i) (outBuf m d)
  x := fun _ _ => iprop(emp)

/-- It may be stored in an invariant. -/
instance P_storable : (P (F := F) m).IsStorable where
  st q d c := match q with
    | 0 => (inferInstance : BI.Storable (upEmb : UEmb _ 𝕄) (coreRes m d (Fin.cast nCore_eq c) (m (oLoc d))))
  dn q d c := match q with
    | 0 => (inferInstance : BI.Storable (upEmb : UEmb _ 𝕄) (coreRes m d (Fin.cast nCore_eq c) (outBuf m d)))
  go q d c i := match q with
    | 0 => (inferInstance : BI.Storable (upEmb : UEmb _ 𝕄) (tileRes m d (Fin.cast nCore_eq c) (Fin.cast nSub_eq i) (m (oLoc d))))
  td q d c i := match q with
    | 0 => (inferInstance : BI.Storable (upEmb : UEmb _ 𝕄) (tileRes m d (Fin.cast nCore_eq c) (Fin.cast nSub_eq i) (outBuf m d)))

/-- What the proof asks of the launch memory: every split lies among the tokens. -/
def PreOK : Prop := ∀ (d : Dev nD) (j : S17.Idx), BitVec.toNat (w := 32) (m (uLoc d) j) ≤ 32768

section Tile
variable (d : Dev nD) (L : grid0.Coords)

/-- The counter of the copy of the splits. -/
abbrev cell0 : GSem nD τ sig := (VT d L, SemLoc.dma cc0_scoped0.sem)
/-- The counter of the copy of the tokens. -/
abbrev cell1 : GSem nD τ sig := (VT d L, SemLoc.dma cc0_scoped1.sem)
/-- The counter of the copy back. -/
abbrev cell2 : GSem nD τ sig := (VT d L, SemLoc.dma cc0_scoped2.sem)

omit [FloatOps F] in
/-- The tile's counters at launch: the three of its copies, and the rest. -/
theorem ownSems0_V :
    (ownSems0 (VT d L) : sProp 𝕄)
      = iprop(semVal (cell0 d L) 0 ∗ semVal (cell1 d L) 0 ∗ semVal (cell2 d L) 0
          ∗ bigSep ((((ownCells (VT d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

omit [FloatOps F] in
/-- The three scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- The scratch for the splits, by its own name. -/
theorem pts_sU (f : Buf (Elt F) ((VT d L).loc cc0_scratch0)) :
    ((sU).view.loc (VT d L) ↦[(sU).view.set]{fullShare} f : sProp 𝕄) = (VT d L).loc cc0_scratch0 ↦{fullShare} f := by
  simp only [Memref.view_whole, View.set_whole]
omit [FloatOps F] in
/-- The scratch for the tokens, by its own name. -/
theorem pts_sX (f : Buf (Elt F) ((VT d L).loc cc0_scratch1)) :
    ((sX).view.loc (VT d L) ↦[(sX).view.set]{fullShare} f : sProp 𝕄) = (VT d L).loc cc0_scratch1 ↦{fullShare} f := by
  simp only [Memref.view_whole, View.set_whole]
omit [FloatOps F] in
/-- The stage, by its own name. -/
theorem pts_sO (f : Buf (Elt F) ((VT d L).loc cc0_scratch2)) :
    ((sO).view.loc (VT d L) ↦[(sO).view.set]{fullShare} f : sProp 𝕄) = (VT d L).loc cc0_scratch2 ↦{fullShare} f := by
  simp only [Memref.view_whole, View.set_whole]

/-- A window that holds the padded batch's words is the padded batch there. -/
theorem window_eq (c : Fin 2) (i : Fin 16) (f : Buf (Elt F) (oLoc d))
    (hf : ∀ n, n < 2048 → f (at1 65536 (2048 * (16 * c.val + i.val) + n)) = cell F (m (fLoc d)) (m (uLoc d)) (2048 * (16 * c.val + i.val) + n)) :
    (wPts d c i f : sProp 𝕄) = wPts d c i (outBuf m d) := by
  refine pointsTo_congr fun (x : S65536.Idx) hx => ?_
  have h : 2048 * (16 * c.val + i.val) ≤ (x 0).val ∧ (x 0).val < 2048 * (16 * c.val + i.val) + 2048 := (mem_winSet (c, i) x).mp hx
  have e : x = at1 65536 (2048 * (16 * c.val + i.val) + ((x 0).val - 2048 * (16 * c.val + i.val))) := at1_of_val x (by omega)
  show f x = cell F (m (fLoc d)) (m (uLoc d)) (x 0).val
  have h' := hf ((x 0).val - 2048 * (16 * c.val + i.val)) (by omega)
  rw [← e] at h'
  rw [h']
  congr 1
  omega

/-- The tile's task, from what the launch deals it to what it hands back. -/
theorem tile_body (c : Fin 2) (i : Fin 16) (hF : (K (F := F)).Facts) (hpre : PreOK m) (O : CellTallies nD τ sig (HIx 1)) (W : Waits sig (HIx 1))
    (hO : ∀ g, O g none = 0) :
    iprop(levAts (K (F := F)).L (K (F := F)).lev ∗ emp ∗ tileRes m d c i (m (oLoc d))
        ∗ scopedBufs (VT d (coordsV c i)) ∗ scopedSems0 (VT d (coordsV c i)) ∗ owes (VT d (coordsV c i)) O W)
      ⊢ wp frame (wpE (defs₀ (F := F)) 𝒱₀ (VT d (coordsV c i)) none) Set.univ
          (cc0__body (coordsV c i) xV (Memref.isWhole_whole _) uV (Memref.isWhole_whole _) oV (Memref.isWhole_whole _)
            sU (Memref.isWhole_whole _) sX (Memref.isWhole_whole _) sO (Memref.isWhole_whole _) cc0_scoped0 cc0_scoped1 cc0_scoped2)
          fun _ => iprop(tileRes m d c i (outBuf m d)
            ∗ scopedBufs (VT d (coordsV c i)) ∗ scopedSems0 (VT d (coordsV c i))
            ∗ ∃ W', ⌜∀ p ∈ W', p ∈ W ∨ p.2 = none ∨ p.2 = some (0 : Fin 1)⌝ ∗ owes (VT d (coordsV c i)) O W') := by
  rw [(K (F := F)).scopedBufs_V hF d (cV (coordsV c i)) (jV (coordsV c i)),
    SparseCore.Cfg.scopedSems0_V (Val := Elt F) d (cV (coordsV c i)) (jV (coordsV c i)), ownSems0_V, ownBufs_V]
  iintro ⟨#Hlv, -, ⟨Hf, Hu, Ho⟩, ⟨⟨%gU, HSU⟩, ⟨%gX, HSX⟩, ⟨%gO, HSO⟩, Hbufs⟩, ⟨HC0, HC1, HC2, Hsems⟩, HO⟩
  ihave Hmw := (show levAts (K (F := F)).L (K (F := F)).lev ⊢ Transfers.MayWaits (VT d (coordsV c i)) (default : HIx 1) O from
    (K (F := F)).mayWaits_none (thr := VT d (coordsV c i)) hO) $$ Hlv
  ihave HSU' := (Entails.of_eq (pts_sU (F := F) d (coordsV c i) _).symm) $$ HSU
  ihave HSX' := (Entails.of_eq (pts_sX (F := F) d (coordsV c i) _).symm) $$ HSX
  ihave HSO' := (Entails.of_eq (pts_sO (F := F) d (coordsV c i) _).symm) $$ HSO
  iapply (wp_wand_r Idealize.ShloMosaic.frame (wpE (defs₀ (F := F)) 𝒱₀ (VT d (coordsV c i)) none) Set.univ)
  isplitl [Hf Hu Ho HSU' HSX' HSO' HC0 HC1 HC2 HO]
  · iapply (tile_run d (coordsV c i) (tileShare c i) (tileShare c i) O W (m (fLoc d)) (m (uLoc d)) (m (oLoc d)) (hpre d) gU gX gO)
    isplitr; · iexact Hmw
    isplitl [Hf]; · iexact Hf
    isplitl [Hu]; · iexact Hu
    isplitl [Ho]; · iexact Ho
    isplitl [HSU']; · iexact HSU'
    isplitl [HSX']; · iexact HSX'
    isplitl [HSO']; · iexact HSO'
    isplitl [HC0]; · iexact HC0
    isplitl [HC1]; · iexact HC1
    isplitl [HC2]; · iexact HC2
    iexact HO
  iintro %_ ⟨Hf, Hu, ⟨%f, %hf, Ho⟩, ⟨%gU', HSU⟩, ⟨%gX', HSX⟩, ⟨%gO', HSO⟩, HC0, HC1, HC2, ⟨%W', HO⟩⟩
  isplitl [Hf Hu Ho]
  · isplitl [Hf]; · iexact Hf
    isplitl [Hu]; · iexact Hu
    iapply (Entails.of_eq (window_eq m d c i f hf))
    iexact Ho
  isplitl [HSU HSX HSO Hbufs]
  · isplitl [HSU]; · iexists _; iapply (Entails.of_eq (pts_sU (F := F) d (coordsV c i) _)); iexact HSU
    isplitl [HSX]; · iexists _; iapply (Entails.of_eq (pts_sX (F := F) d (coordsV c i) _)); iexact HSX
    isplitl [HSO]; · iexists _; iapply (Entails.of_eq (pts_sO (F := F) d (coordsV c i) _)); iexact HSO
    iexact Hbufs
  isplitl [HC0 HC1 HC2 Hsems]
  · isplitl [HC0]; · iexact HC0
    isplitl [HC1]; · iexact HC1
    isplitl [HC2]; · iexact HC2
    iexact Hsems
  iexists W'; isplitr
  · ipureintro; intro p _
    rcases p.2 with _ | q
    · exact .inr (.inl rfl)
    · exact .inr (.inr (congrArg some (Subsingleton.elim q 0)))
  · iexact HO

end Tile

/-! ## The obligation -/

/-- What a vector subcore runs is the tile's body at its coordinates. -/
theorem defs₀_vector (c : Fin τ.nSC) (s : Fin τ.nSub) :
    defs₀ (F := F) (.scVector c s) 0 ()
      = SparseCore.onTile hcore0 hsub0 (fun c s => cc0__body (coordsV c s)
          xV (Memref.isWhole_whole _) uV (Memref.isWhole_whole _) oV (Memref.isWhole_whole _)
          sU (Memref.isWhole_whole _) sX (Memref.isWhole_whole _) sO (Memref.isWhole_whole _) cc0_scoped0 cc0_scoped1 cc0_scoped2) ⟨⟩ c s := rfl

/-- Every tile, handed its resources, runs to the end and hands them back with its window filled. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (Fin.cast nCore_eq c) (Fin.cast nSub_eq i) hF hpre O W hO

/-! ## The arrays split among the SparseCores and the tiles, and join -/

omit [FloatOps F] in
/-- Over the sixteen subcores, as over the numbers below sixteen. -/
theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

omit [FloatOps F] in
/-- Over the two SparseCores: one and the other. -/
theorem bigSep_cores (Φ : Fin 2 → sProp 𝕄) :
    (bigSep Finset.univ fun c : Fin ((K (F := F)).nCore 0) => Φ (Fin.cast nCore_eq c)) = iprop(Φ 0 ∗ Φ 1) := by
  refine Eq.trans ?_ (bigSep_fin_two Φ)
  exact bigSep_congr fun _ _ => congrArg Φ (Fin.ext rfl)

/-- A SparseCore's resources split among its tiles, and what they hand back joins. -/
theorem vecSplit : (K (F := F)).VecSplit' (P m) 0 := by
  intro d c
  show coreRes m d (Fin.cast nCore_eq c) (m (oLoc d)) ⊢ |={Set.univ}=> iprop(
      (bigSep Finset.univ fun i : Fin ((K (F := F)).nSub 0) => tileRes m d (Fin.cast nCore_eq c) (Fin.cast nSub_eq i) (m (oLoc d)))
      ∗ ((bigSep Finset.univ fun i : Fin ((K (F := F)).nSub 0) => tileRes m d (Fin.cast nCore_eq c) (Fin.cast nSub_eq i) (outBuf m d))
          -∗ coreRes m d (Fin.cast nCore_eq c) (outBuf m d)))
  generalize Fin.cast nCore_eq c = c
  rw [bigSep_tasks (F := F) (fun i => tileRes m d c i (m (oLoc d))), bigSep_tasks (F := F) (fun i => tileRes m d c i (outBuf m d)),
    bigSep_sep', bigSep_sep', bigSep_sep', bigSep_sep']
  iintro ⟨Hf, Hu, Ho⟩
  ihave Hf' := (Transfers.pointsTo_toks_split (coreShare c) 16) $$ Hf
  ihave Hu' := (Transfers.pointsTo_toks_split (coreShare c) 16) $$ Hu
  icases Hf' with ⟨Hfr, Hfs⟩
  icases Hu' with ⟨Hur, Hus⟩
  imodintro
  isplitl [Hfs Hus Ho]
  · isplitl [Hfs]; · iexact Hfs
    isplitl [Hus]; · iexact Hus
    iexact Ho
  iintro ⟨Hfs, Hus, Ho⟩
  isplitl [Hfr Hfs]
  · iapply (Transfers.pointsTo_toks_join (coreShare c) 16)
    isplitl [Hfr] <;> iassumption
  isplitl [Hur Hus]
  · iapply (Transfers.pointsTo_toks_join (coreShare c) 16)
    isplitl [Hur] <;> iassumption
  iexact Ho

omit [FloatOps F] in
/-- The flat result whole is its thirty-two windows. -/
theorem oPts_windows (d : Dev nD) (f : Buf (Elt F) (oLoc d)) :
    (oLoc d ↦{fullShare} f : sProp 𝕄)
      = iprop((bigSep Finset.univ fun i : Fin 16 => wPts d 0 i f) ∗ bigSep Finset.univ fun i : Fin 16 => wPts d 1 i f) := by
  refine Eq.trans ?_ (bigSep_fin_two (fun c : Fin 2 => bigSep Finset.univ fun i : Fin 16 => (wPts d c i f : sProp 𝕄)))
  rw [← BI.bigSep_univ_prod (fun p : Fin 2 × Fin 16 => (oLoc d ↦[winSet p]{fullShare} f : sProp 𝕄)),
    ← pointsTo_biUnion Finset.univ (ℓ := oLoc d) winSet winSet_disjoint, winSet_cover]; try rfl

omit [FloatOps F] in
/-- A whole array is two half shares of it. -/
theorem halves {ℓ : Loc nD τ sig} (f : Buf (Elt F) ℓ) :
    (ℓ ↦{fullShare} f : sProp 𝕄) = iprop((ℓ ↦{coreShare 0} f) ∗ ℓ ↦{coreShare 1} f) :=
  BI.Entails.antisymm (pointsTo_share (PosShare.mem_left_op_right fullShare)).1 (pointsTo_share (PosShare.mem_left_op_right fullShare)).2

/-- The two SparseCores' resources are the three arrays whole. -/
theorem cores_eq (d : Dev nD) (f : Buf (Elt F) (oLoc d)) :
    iprop(coreRes m d 0 f ∗ coreRes m d 1 f) ⊣⊢ (iprop((fLoc d ↦{fullShare} m (fLoc d)) ∗ (uLoc d ↦{fullShare} m (uLoc d)) ∗ oLoc d ↦{fullShare} f) : sProp 𝕄) := by
  rw [halves (m (fLoc d)), halves (m (uLoc d)), oPts_windows]
  constructor
  · iintro ⟨⟨Hf0, Hu0, Ho0⟩, ⟨Hf1, Hu1, Ho1⟩⟩
    isplitl [Hf0 Hf1]; · isplitl [Hf0] <;> iassumption
    isplitl [Hu0 Hu1]; · isplitl [Hu0] <;> iassumption
    isplitl [Ho0] <;> iassumption
  · iintro ⟨⟨Hf0, Hf1⟩, ⟨Hu0, Hu1⟩, ⟨Ho0, Ho1⟩⟩
    isplitl [Hf0 Hu0 Ho0]
    · isplitl [Hf0]; · iexact Hf0
      isplitl [Hu0] <;> iassumption
    · isplitl [Hf1]; · iexact Hf1
      isplitl [Hu1] <;> iassumption

/-- What the TensorCore hands over at the start ... -/
theorem st0_eq (d : Dev nD) : (bigSep Finset.univ fun c : Fin ((K (F := F)).nCore 0) => (P m).st 0 d c) = iprop(coreRes m d 0 (m (oLoc d)) ∗ coreRes m d 1 (m (oLoc d))) :=
  bigSep_cores (fun c => coreRes m d c (m (oLoc d)))
/-- ... and what it gets back at the end. -/
theorem dn0_eq (d : Dev nD) : (bigSep Finset.univ fun c : Fin ((K (F := F)).nCore 0) => (P m).dn 0 d c) = iprop(coreRes m d 0 (outBuf m d) ∗ coreRes m d 1 (outBuf m d)) :=
  bigSep_cores (fun c => coreRes m d c (outBuf m d))

/-! ## The launch element of the certificate's ghost state -/

/-- The ghost state at launch. -/
def u₀ : UU := (initOf (K (F := F)).hsCells (K (F := F)).hsToks, 1)

omit [FloatOps F] in
/-- Nothing, however often, is nothing. -/
theorem bigSep_emp' {I : Type} (s : Finset I) : (bigSep s fun _ => iprop(emp)) = (iprop(emp) : sProp 𝕄) := bigSep_emp_const s

/-- It gives the handshakes their part; nothing else is asked of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore: the call, then the reshape -/

/-- The tokens, as @main names them. -/
abbrev f' : DevRef τ sig := Proc.devRef .tc (main_arg0 : Ref sig .tc)
/-- The row splits, as @main names them. -/
abbrev u' : DevRef τ sig := Proc.devRef .tc (main_arg1 : Ref sig .tc)
/-- The flat result, as @main names it. -/
abbrev o' : DevRef τ sig := Proc.devRef .tc (main_v0 : Ref sig .tc)
/-- The result, as @main names it. -/
abbrev r' : DevRef τ sig := Proc.devRef .tc (main_v1 : Ref sig .tc)
/-- The reshape after the call. -/
abbrev opR : HloOp τ sig (Elt F) := StableHlo.reshape main_v0 main_v1 (rfl : (.i32 : EltTy) = .i32) shapeCasts_S65536_S16x4096

/-- The two arrays the reshape names. -/
abbrev S2r : Finset (DevRef τ sig) := {o', r'}

omit [FloatOps F] in
/-- Holding the reshape's two arrays is holding the one and the other. -/
theorem held_S2r (d : Dev nD) (W : Valuation τ sig (Elt F)) :
    (held (T d) S2r W : sProp 𝕄) = iprop((oLoc d ↦{fullShare} W o') ∗ rLoc d ↦{fullShare} W r') := by
  unfold held S2r
  rw [SparseCore.bigSep_insert' (by decide), bigSep_singleton]

omit [FloatOps F] in
/-- @main's arrays, one by one. -/
theorem unscopedBufs_eq (d : Dev nD) (W : (b : Ref sig .tc) → Buf (Elt F) ((d.tc : Thread nD τ).loc b)) :
    (unscopedBufs d W : sProp 𝕄) = iprop((fLoc d ↦{fullShare} W main_arg0) ∗ (uLoc d ↦{fullShare} W main_arg1)
      ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays when the call has returned. -/
def V1 (d : Dev nD) : Valuation τ sig (Elt F) := Function.update (fun b => m (d, b)) o' (outBuf m d)
/-- The flat result is the padded batch then ... -/
theorem V1_o (d : Dev nD) : V1 m d o' = outBuf m d := Function.update_self _ _ _
/-- ... and the result is as launched. -/
theorem V1_r (d : Dev nD) : V1 m d r' = m (rLoc d) := Function.update_of_ne (show r' ≠ o' by decide) _ _

/-- The reshape touches those two arrays alone. -/
theorem hR : (opR (F := F)).bufs ⊆ S2r := show ({o', r'} : Finset (DevRef τ sig)) ⊆ S2r by decide

/-- The result @main leaves: the padded batch in sixteen rows. -/
def resBuf (d : Dev nD) : Buf (Elt F) (rLoc d) := fun w : S16x4096.Idx => cell F (m (fLoc d)) (m (uLoc d)) (4096 * (w 0).val + (w 1).val)

/-- The reshape keeps the row-major order. -/
theorem result_r (d : Dev nD) : (opR (F := F)).result (V1 m d) r' = resBuf m d := by
  refine (StableHlo.reshape_result (τ := τ) (Val := Elt F) main_v0 main_v1 (rfl : (.i32 : EltTy) = .i32) shapeCasts_S65536_S16x4096 _ _ (V1 m d)).trans ?_
  funext w
  show V1 m d o' (Shape.reshapeEquiv shapeCasts_S65536_S16x4096 w) = _
  have e : Shape.reshapeEquiv shapeCasts_S65536_S16x4096 w = at1 65536 (4096 * (w 0).val + (w 1).val) := by
    have h0 : (w 0).val < 16 := (w 0).isLt
    have h1 : (w 1).val < 4096 := (w 1).isLt
    refine Shape.reshapeEquiv_eq_of_rowMajor _ ?_
    rw [Shape.rowMajor_val_two, Shape.rowMajor_val_one, at1_val (by omega)]
    show _ = (w 0).val * 4096 + (w 1).val
    omega
  rw [e, V1_o]
  show cell F _ _ (at1 65536 _ 0).val = _
  have h0 : (w 0).val < 16 := (w 0).isLt
  have h1 : (w 1).val < 4096 := (w 1).isLt
  rw [at1_val (by omega)]
  rfl

/-- What @main leaves the claim: the arguments as they were, the result. -/
abbrev FIN (d : Dev nD) : sProp 𝕄 :=
  iprop((fLoc d ↦{fullShare} m (fLoc d)) ∗ (uLoc d ↦{fullShare} m (uLoc d)) ∗ rLoc d ↦{fullShare} resBuf m d)

/-- @main runs the call and the reshape, and ends with the arguments as launched and the padded batch as the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hf, Hu, Ho, Hr⟩, Hts, -⟩, -⟩
  iapply ((K (F := F)).wp_run (D (F := F)) 𝒱 (EH := EH) (P := P m) κ d 0) $$ [Hst Hf Hu Ho Hr Hb Hts]
  isplitr; · iexact Hctx
  isplitl [Hst]; · iexact Hst
  isplitl [Hf Hu Ho]
  · rw [st0_eq]
    iapply (cores_eq m d (m (oLoc d))).2
    isplitl [Hf]; · iexact Hf
    isplitl [Hu]; · iexact Hu
    iexact Ho
  iintro ⟨Hst, Hdn⟩
  ihave Hdn' := (Entails.of_eq (dn0_eq m d)) $$ Hdn
  ihave Hdn'' := (cores_eq m d (outBuf m d)).1 $$ Hdn'
  icases Hdn'' with ⟨Hf, Hu, Ho⟩
  iapply (wp_hlo_within 𝒱 (SparseCore.T d) none Set.univ (op := opR) (S := S2r) hR (V := V1 m d)) $$ [Hb Ho Hr]
  · isplitl [Hb]; · iexact Hb
    rw [held_S2r, V1_o, V1_r]
    isplitl [Ho]; · iexact Ho
    iexact Hr
  iintro ⟨Hb, Hheld⟩
  ihave Hh := (Entails.of_eq (held_S2r (F := F) d _)) $$ Hheld
  icases Hh with ⟨-, Hr⟩
  ihave Hr' := (Entails.of_eq (congrArg (fun g => (rLoc d ↦{fullShare} g : sProp 𝕄)) (result_r m d))) $$ Hr
  rw [wp_ret]; imodintro; imodintro
  isplitl [Hst]; · iexact Hst
  isplitr [Hb Hts]
  · isplitl [Hf]; · iexact Hf
    isplitl [Hu]; · iexact Hu
    iexact Hr'
  isplitl [Hb] <;> iassumption

/-- What the final memory of device `d` says. -/
def fq (d : Dev nD) (s' : Phys nD τ sig (Elt F)) : Prop :=
  s'.mem.mem (rLoc d) = resBuf m d ∧ s'.mem.mem (fLoc d) = m (fLoc d) ∧ s'.mem.mem (uLoc d) = m (uLoc d)

/-- What @main holds at the end says so of the final memory. -/
theorem hfin (d : Dev nD) (s' : Phys nD τ sig (Elt F)) : iprop(FIN m d ∗ SI s') ⊢ (⌜fq m d s'⌝ : sProp 𝕄) := by
  iintro ⟨⟨Hf, Hu, Hr⟩, HSI⟩
  ihave H := (persistent_entails_right (SI_pointsTo_agree (st := s') (ℓ := fLoc d) (I := Finset.univ) (q := fullShare) (f := m (fLoc d)))) $$ [HSI Hf]
  · isplitl [HSI] <;> iassumption
  icases H with ⟨%h1, HSI, -⟩
  ihave H := (persistent_entails_right (SI_pointsTo_agree (st := s') (ℓ := uLoc d) (I := Finset.univ) (q := fullShare) (f := m (uLoc d)))) $$ [HSI Hu]
  · isplitl [HSI] <;> iassumption
  icases H with ⟨%h2, HSI, -⟩
  ihave H := (SI_pointsTo_agree (st := s') (ℓ := rLoc d) (I := Finset.univ) (q := fullShare) (f := resBuf m d)) $$ [HSI Hr]
  · isplitl [HSI] <;> iassumption
  icases H with %h3
  ipureintro
  have e1 : s'.mem.mem (fLoc d) = m (fLoc d) := funext fun (i : Idx (fLoc d)) => h1 i (by simp)
  have e2 : s'.mem.mem (uLoc d) = m (uLoc d) := funext fun (i : Idx (uLoc d)) => h2 i (by simp)
  have e3 : s'.mem.mem (rLoc d) = resBuf m d := funext fun (i : Idx (rLoc d)) => h3 i (by simp)
  exact ⟨e3, e1, e2⟩

/-! ## The program's run -/

/-- The final states: the result the padded batch, the arguments unchanged, every semaphore counter at zero. -/
def QC : PUnit × MemSt nD τ sig (Elt F) → Prop := fun r =>
  (∀ c : Dev nD, r.2.mem (rLoc c) = resBuf m c ∧ r.2.mem (fLoc c) = m (fLoc c) ∧ r.2.mem (uLoc c) = m (uLoc c)) ∧ r.2.sem = fun _ => 0

/-- Every fair execution of the program, from any memory whose splits lie among the tokens, ends: the result is the padded batch,
    the arguments are unchanged and every semaphore counter is zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Frames.lean ====
/-
  The programs run to the end without a fault, their arguments end unchanged and every semaphore counter ends at zero: the
  kernel at both float instances, where the row splits are in range, and the reference from any memory.
-/
module

public import proofs.«01_k».proof.Defs
public import proofs.«01_k».proof.Proof.Pre
public import proofs.«01_k».proof.Proof.Run
public import proofs.«01_k».proof.Proof.RunIdeal
public import proofs.«01_k».proof.Proof.Gen.ReferenceIdeal.Run
public import Idealize.ShloMosaic.Lib.Quiescent

@[expose] public section

noncomputable section

namespace Cert.Proof.Frames

open Idealize.ShloMosaic Idealize.SL.Sem

/-- The kernel's claim at the machine's floats. -/
theorem kernel : Cert.quiescent_Kernel := fun m g hpre =>
  (θ_run Cert.Kernel.defs _ _).mono (fun _ h => ⟨fun c => (h.1 c).2, h.2⟩)
    (Cert.Proof.Kernel.run_main (F := Bits) m g fun d j => Pre.splits_le _ _ (hpre d) j)

/-- The kernel's claim at the ideal floats. -/
theorem kernelIdeal : Cert.quiescent_KernelIdeal := fun m g hpre =>
  (θ_run Cert.KernelIdeal.defs _ _).mono (fun _ h => ⟨fun c => (h.1 c).2, h.2⟩)
    (Cert.Proof.KernelIdeal.run_main (F := Ideal) m g fun d j => Pre.splits_le _ _ (hpre d) j)

/-- The kernel's claim at the ideal floats, under the value claim's precondition. -/
theorem kernelIdeal_rows : Cert.quiescent_KernelIdeal_pre_row_splits_of_tokens := fun m g hpre =>
  (θ_run Cert.KernelIdeal.defs _ _).mono (fun _ h => ⟨fun c => (h.1 c).2, h.2⟩)
    (Cert.Proof.KernelIdeal.run_main (F := Ideal) m g fun d j => (Pre.rows _ _ (hpre d)).splits_le j)

/-- The reference's claim. It is host operations alone: it declares no semaphore. -/
theorem reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The reference's claim under the value claim's precondition, which it does not need. -/
theorem reference_rows : Cert.quiescent_ReferenceIdeal_pre_row_splits_of_tokens := fun m g _ => reference m g trivial

end Cert.Proof.Frames

end
-- ==== Proof.Stream.lean ====
/-
  Arithmetic of a token stream's row splits: the row a token lies in, counted from the splits not above it, and where in
  that row it stands.
-/
module

public import Mathlib.Data.Nat.Count
public import Idealize.ShloMosaic.Lib.Routing.Count

@[expose] public section

namespace Cert.Proof.Stream

/-- Seventeen row splits from 0 to 32768, never decreasing. -/
structure Splits (s : Nat → Nat) : Prop where
  le : ∀ i k, i ≤ k → k ≤ 16 → s i ≤ s k
  first : s 0 = 0
  last : s 16 = 32768

/-- The number of splits not above `n`. -/
def below (s : Nat → Nat) (n : Nat) : Nat := Nat.count (fun j => s j ≤ n) 17

/-- The row of token `n`. -/
def row (s : Nat → Nat) (n : Nat) : Nat := min (max (below s n - 1) 0) 15

variable {s : Nat → Nat} (h : Splits s)
include h

/-- Of the splits not above `n` there are more than `j` exactly when split `j` is one of them. -/
theorem lt_below {n j : Nat} (hj : j ≤ 16) : j < below s n ↔ s j ≤ n := by
  unfold below
  constructor
  · intro hc
    by_contra hn
    have hall : ∀ k, j ≤ k → k ≤ 17 → Nat.count (fun j => s j ≤ n) k ≤ j := by
      intro k hjk
      induction k, hjk using Nat.le_induction with
      | base => intro _; exact Nat.count_le _
      | succ k hk ih =>
        intro hk17
        have := h.le j k hk (by omega)
        rw [Nat.count_succ, if_neg (by omega)]
        exact ih (by omega)
    have := hall 17 (by omega) (by omega)
    omega
  · intro hs
    have hall : ∀ k, k ≤ j + 1 → Nat.count (fun j => s j ≤ n) k = k := by
      intro k
      induction k with
      | zero => intro _; rfl
      | succ k ih =>
        intro hk
        have := h.le k j (by omega) hj
        rw [Nat.count_succ, ih (by omega), if_pos (by omega)]
    have e := hall (j + 1) (by omega)
    have := Nat.count_monotone (fun j => s j ≤ n) (show j + 1 ≤ 17 by omega)
    omega

/-- A token of the stream is in row `b` exactly when it lies from split `b` on and before split `b + 1`. -/
theorem row_eq {n b : Nat} (hn : n < 32768) (hb : b < 16) : row s n = b ↔ s b ≤ n ∧ n < s (b + 1) := by
  have e0 := lt_below h (n := n) (j := b) (by omega)
  have e1 := lt_below h (n := n) (j := b + 1) (by omega)
  have e2 := lt_below h (n := n) (j := 0) (by omega)
  have e3 := lt_below h (n := n) (j := 16) (by omega)
  have h0 := h.first
  have hl := h.last
  unfold row
  omega

/-- There are sixteen rows. -/
theorem row_lt (n : Nat) : row s n < 16 := by unfold row; omega

/-- A token's row begins at or before it. -/
theorem row_le {n : Nat} (hn : n < 32768) : s (row s n) ≤ n :=
  ((row_eq h hn (row_lt h n)).1 rfl).1

end Cert.Proof.Stream
-- ==== Proof.RefTerm.lean ====
/-
  The reference's result in named steps — each token's row, its place in the row, where it is written — and what each step
  holds at a token, for the row splits of a token stream.
-/
module

public import proofs.«01_k».proof.Proof.Pre
public import proofs.«01_k».proof.Proof.Stream
public import proofs.«01_k».proof.Proof.Gen.ReferenceIdeal.Run
public import Idealize.ShloMosaic.Lib.Routing.Ops
public import Idealize.ShloMosaic.Lib.Routing.OpsSet
public import Idealize.ShloMosaic.Lib.Routing.OpsSearch
public import Idealize.ShloMosaic.Lib.Routing.OpsPair

@[expose] public section

noncomputable section

namespace Cert.Proof.Ref

open Cert.ReferenceIdeal Cert.ReferenceIdeal.Gen
open Idealize.ShloMosaic Idealize.ShloMosaic.ValueIdx Idealize.ShloMosaic.Routing Idealize.ShloMosaic.StableHlo
open Cert.Proof.Lane Cert.Proof.Stream

/-! ## The steps -/

/-- One word at every token. -/
def every (k : BitVec 32) : IVec S32768 32 := broadcastInDim S32768 ![] bcast_S_S32768 (constantI S_ 32 k)

/-- A negative index counted from the end of an axis of extent `k`. -/
def wrap (k : BitVec 32) (x : IVec S32768 32) : IVec S32768 32 := select (cmpi .slt x (every 0#32)) (addi x (every k)) x

/-- Whether split `j` is at or before token `n`. -/
def mask (u : IVec S17 32) : IVec S32768x17 1 :=
  cmpi .sle (broadcastInDim S32768x17 ![0, 1] bcast_S1x17_S32768x17_0_1 (broadcastInDim S1x17 ![1] bcast_S17_S1x17_1 u))
    (broadcastInDim S32768x17 ![0, 1] bcast_S32768x1_S32768x17_0_1 (broadcastInDim S32768x1 ![0] bcast_S32768_S32768x1_0 (iotaInDim S32768 32 0)))

/-- Each token's row. -/
def rowW (u : IVec S17 32) : IVec S32768 32 :=
  minsi (every 15#32) (maxsi (every 0#32)
    (subi (Host.reduce IntOp.addi (extui 32 (mask u) natLt_1_32) (constantI S_ 32 0#32) reducesTo_S32768x17_S32768_d1 h_S_) (every 1#32)))

/-- Each token's place in its row. -/
def placeW (u : IVec S17 32) : IVec S32768 32 :=
  subi (iotaInDim S32768 32 0)
    (Host.gather gather_S17_S32768x1_S32768_n_0_n_n_0_1_1 u (broadcastInDim S32768x1 ![0] bcast_S32768_S32768x1_0 (wrap 17#32 (rowW u))))

/-- Whether the place is inside the padded row. -/
def fits (u : IVec S17 32) : IVec S32768 1 := cmpi .slt (placeW u) (every 4096#32)

/-- The row each token is written to: a row that is cut off where its place is not inside. -/
def rowT (u : IVec S17 32) : IVec S32768 32 := wrap 17#32 (select (fits u) (rowW u) (every 16#32))

/-- The column each token is written to. -/
def colT (u : IVec S17 32) : IVec S32768 32 := wrap 4096#32 (select (fits u) (placeW u) (every 0#32))

/-- Each token's target. -/
def target (u : IVec S17 32) : IVec S32768x2 32 :=
  concatenate S32768x2 1 [⟨S32768x1, broadcastInDim S32768x1 ![0] bcast_S32768_S32768x1_0 (rowT u)⟩,
    ⟨S32768x1, broadcastInDim S32768x1 ![0] bcast_S32768_S32768x1_0 (colT u)⟩] concatenates_S32768x1_S32768x1_S32768x2_d1

/-- The tokens' remainders. -/
def hashes (f : IVec S32768 32) : IVec S32768 32 := pyRem bcast_S_S32768 f (constantI S_ 32 100000#32)

/-- The padded batch with its spare row. -/
def padded (f : IVec S32768 32) (u : IVec S17 32) : IVec S17x4096 32 :=
  Host.scatter scatter_S17x4096_S32768x2_S32768_n_01_01_1 (fun _ b => b) (broadcastInDim S17x4096 ![] bcast_S_S17x4096 (constantI S_ 32 0#32))
    (target u) (hashes f)

/-- The reference's result is the padded batch without its spare row. -/
theorem res_eq {F : FTy → Type} [FloatOps F] (m : (ℓ : Loc nD τ sig) → Buf (Elt F) ℓ) (c : Dev nD) :
    Cert.ReferenceIdeal.Value.res_out0 m c
      = extractStridedSlice S16x4096 ![0, 0] (padded (m ((SparseCore.T c).loc main_arg0)) (m ((SparseCore.T c).loc main_arg1)))
          slices_S17x4096_S16x4096_0_0 := by
  unfold Cert.ReferenceIdeal.Value.res_out0 Cert.ReferenceIdeal.Value.res_main_v39
  rfl

/-! ## The steps at a token -/

/-- A spread number at a place. -/
theorem every_at (k : BitVec 32) (i : S32768.Idx) : every k i = k := rfl

/-- A number that isn't negative is not wrapped. -/
theorem wrap_at (k : BitVec 32) (x : IVec S32768 32) (i : S32768.Idx) (h : (x i).toNat < 2147483648) : wrap k x i = x i :=
  wrap_of_lt (x i) _ h

/-- A token that is not negative has its remainder by 100000. -/
theorem hashes_at (f : IVec S32768 32) (i : S32768.Idx) (h : (f i).toNat < 2147483648) :
    hashes f i = BitVec.ofNat 32 ((f i).toNat % 100000) :=
  pyRem_ap bcast_S_S32768 f (constantI S_ 32 100000#32) i (b := 100000) (by rw [BitVec.ofNat_toNat, BitVec.setWidth_eq]) rfl h (by omega) (by omega)

variable (u : IVec S17 32)

/-- The splits as natural numbers. -/
def nat (j : Nat) : Nat := (u (at1 17 j)).toNat

/-- They are the splits of a stream where the precondition holds. -/
theorem splits {f : IVec S32768 32} {u : IVec S17 32} (h : Pre.Rows f u) : Splits (nat u) :=
  ⟨fun _ _ hik hk => h.le hik hk, h.first, h.last⟩

variable {u} (h : Splits (nat u)) (p : Fin 32768)
include h

/-- A split is at most the number of tokens. -/
theorem nat_le (j : Nat) (hj : j ≤ 16) : nat u j ≤ 32768 := h.last ▸ h.le j 16 hj (by omega)

/-- The mask at token `p` and split `q`. -/
theorem mask_at (q : Fin 17) : mask u (ix2 p q) = 1#1 ↔ nat u q.val ≤ p.val := by
  have e1 : broadcastInDim S32768x17 ![0, 1] bcast_S1x17_S32768x17_0_1 (broadcastInDim S1x17 ![1] bcast_S17_S1x17_1 u) (ix2 p q) = u (ix1 q) :=
    bcCols _ _ u p q
  have e2 : broadcastInDim S32768x17 ![0, 1] bcast_S32768x1_S32768x17_0_1
      (broadcastInDim S32768x1 ![0] bcast_S32768_S32768x1_0 (iotaInDim S32768 32 0)) (ix2 p q) = BitVec.ofNat 32 p.val :=
    bcRows _ _ _ p q
  have e3 : u (ix1 q) = u (at1 17 q.val) := congrArg u (at1_of_val _ rfl)
  have hl := nat_le h q.val (by omega)
  unfold mask
  rw [WordCmp.cmpi_at, e1, e2, e3, Pre.sle_one, Predicate.toInt_eq_toNat_of_lt (show _ < 2 ^ 31 from by unfold nat at hl; omega),
    Predicate.toInt_ofNat_small _ (by omega)]
  unfold nat
  omega

omit h in
/-- The clip, at a token. -/
theorem clip_at (x y z w : IVec S32768 32) (i : S32768.Idx) :
    minsi x (maxsi y (subi z w)) i = IntOp.minsi (x i) (IntOp.maxsi (y i) (z i - w i)) := rfl

/-- Token `p`'s row. -/
theorem rowW_at : rowW u (ix1 p) = BitVec.ofNat 32 (row (nat u) p.val) := by
  have e : Host.reduce IntOp.addi (extui 32 (mask u) natLt_1_32) (constantI S_ 32 0#32) reducesTo_S32768x17_S32768_d1 h_S_ (ix1 p)
      = BitVec.ofNat 32 (below (nat u) p.val) :=
    reduce_count (by omega) (mask u) natLt_1_32 reducesTo_S32768x17_S32768_d1 h_S_ p _ fun q => mask_at h p q
  have hb : 0 < below (nat u) p.val := (lt_below h (by omega)).2 (by rw [h.first]; omega)
  have hb' : below (nat u) p.val ≤ 17 := Nat.count_le _
  unfold rowW
  rw [clip_at, e, every_at, every_at, every_at]
  rw [Predicate.sub_one_ofNat _ hb (by omega), clip_word (by omega) (by omega) (by omega)]
  rfl

/-- Token `p`'s place in its row. -/
theorem placeW_at : placeW u (ix1 p) = BitVec.ofNat 32 (p.val - nat u (row (nat u) p.val)) := by
  have hr := row_lt h p.val
  have hle := row_le h p.isLt
  have e : Host.gather gather_S17_S32768x1_S32768_n_0_n_n_0_1_1 u
      (broadcastInDim S32768x1 ![0] bcast_S32768_S32768x1_0 (wrap 17#32 (rowW u))) (ix1 p) = u (ix1 ⟨row (nat u) p.val, by omega⟩) := by
    refine take_ap _ rfl rfl rfl rfl u _ p (by omega) (by omega) ?_
    rw [bcCol, wrap_at _ _ _ (by rw [rowW_at h p, BitVec.toNat_ofNat]; omega), rowW_at h p]
  have e3 : u (ix1 ⟨row (nat u) p.val, by omega⟩) = u (at1 17 (row (nat u) p.val)) := congrArg u (at1_of_val _ rfl)
  show IntOp.subi (BitVec.ofNat 32 p.val) _ = _
  rw [e, e3]
  apply BitVec.eq_of_toNat_eq
  have hp := p.isLt
  unfold nat at hle ⊢
  simp only [IntOp.subi, BitVec.toNat_sub, BitVec.toNat_ofNat]
  omega

/-- Whether token `p`'s place is inside the padded row. -/
theorem fits_at {α : Type} (a b : α) :
    Scalar.select (fits u (ix1 p)) a b = if p.val - nat u (row (nat u) p.val) < 4096 then a else b := by
  have hp := p.isLt
  have e : fits u (ix1 p) = IntOp.cmpi .slt (BitVec.ofNat 32 (p.val - nat u (row (nat u) p.val))) (BitVec.ofNat 32 4096) := by
    unfold fits
    rw [WordCmp.cmpi_at, placeW_at h p]
    rfl
  rw [e]
  split
  · next c => exact WordCmp.select_of_eq_one ((WordCmp.cmpi_slt_ofNat_eq_one_iff (by omega) (by omega)).2 c) a b
  · next c => exact WordCmp.select_of_eq_zero ((WordCmp.cmpi_slt_ofNat_eq_zero_iff (by omega) (by omega)).2 (by omega)) a b

/-- The row token `p` is written to. -/
theorem rowT_at : rowT u (ix1 p)
    = BitVec.ofNat 32 (if p.val - nat u (row (nat u) p.val) < 4096 then row (nat u) p.val else 16) := by
  have hr := row_lt h p.val
  have e : select (fits u) (rowW u) (every 16#32) (ix1 p)
      = BitVec.ofNat 32 (if p.val - nat u (row (nat u) p.val) < 4096 then row (nat u) p.val else 16) := by
    rw [WordCmp.select_at, fits_at h p, rowW_at h p]
    split <;> rfl
  unfold rowT
  rw [wrap_at _ _ _ (by rw [e, BitVec.toNat_ofNat]; split <;> omega), e]

/-- The column token `p` is written to. -/
theorem colT_at : colT u (ix1 p)
    = BitVec.ofNat 32 (if p.val - nat u (row (nat u) p.val) < 4096 then p.val - nat u (row (nat u) p.val) else 0) := by
  have hp := p.isLt
  have e : select (fits u) (placeW u) (every 0#32) (ix1 p)
      = BitVec.ofNat 32 (if p.val - nat u (row (nat u) p.val) < 4096 then p.val - nat u (row (nat u) p.val) else 0) := by
    rw [WordCmp.select_at, fits_at h p, placeW_at h p]
    split <;> rfl
  unfold colT
  rw [wrap_at _ _ _ (by rw [e, BitVec.toNat_ofNat]; split <;> omega), e]

end Cert.Proof.Ref

end
-- ==== Proof.Hash.lean ====
/-
  The feature hash over the real numbers: for a token id that is not negative, the kernel's product with a rounded
  reciprocal, truncated and mended once, is the id's remainder by 100000.
-/
module

public import proofs.«01_k».proof.Proof.Lane
public import Idealize.ShloMosaic.PureOps.Ideal
public import Idealize.ShloMosaic.Lib.Routing.Words

@[expose] public section

noncomputable section

namespace Cert.Proof.Hash

open Idealize.ShloMosaic Idealize.ShloMosaic.StableHlo Cert.Proof.Lane

/-- The kernel's reciprocal: the float nearest to 1/100000 is 10995116 / 2^40, a little below it. -/
theorem recip : (Scalar.ofBits .f32 0x3727C5AC#32 : Ideal .f32) = (((10995116 : ℝ) / 1099511627776 : ℝ) : EReal) := by
  show Ideal.ofBits .f32 0x3727C5AC#32 = _
  simp [Ideal.ofBits, Ideal.ieee, -EReal.coe_mul]
  norm_num

/-- A real that is not negative and whose floor is below 2^31 is converted to its floor's word. -/
theorem fptosi_floor {r : ℝ} {q : Nat} (hr : 0 ≤ r) (hf : ⌊r⌋ = (q : Int)) (hq : q < 2147483648) :
    Ideal.fptosi 32 (r : EReal) = BitVec.ofNat 32 q := by
  have hp : (2 ^ (32 - 1) : Nat) = 2147483648 := by norm_num
  unfold Ideal.fptosi
  rw [Ideal.toIntClamped_coe, if_pos hr, hf, hp]
  have e : max (-((2147483648 : Nat) : Int)) (min (((2147483648 : Nat) : Int) - 1) (q : Int)) = (q : Int) := by omega
  rw [e, BitVec.ofInt_natCast]

/-- The floor of a product with a fraction is a division of natural numbers. -/
theorem floor_mul (n a b : Nat) : ⌊(n : ℝ) * ((a : ℝ) / (b : ℝ))⌋ = ((n * a / b : Nat) : Int) := by
  rw [← mul_div_assoc, ← Nat.cast_mul, Int.floor_div_natCast, Int.floor_natCast, Int.natCast_ediv]

/-- The candidate quotient of an id that is not negative, as a division of natural numbers. -/
theorem quot_eq {n : BitVec 32} (h : n.toNat < 2147483648) :
    quot Ideal n = BitVec.ofNat 32 (n.toNat * 10995116 / 1099511627776) := by
  have hn : n.toInt = (n.toNat : Int) := Predicate.toInt_eq_toNat_of_lt h
  have hq : n.toNat * 10995116 / 1099511627776 < 2147483648 := by omega
  have hf := floor_mul n.toNat 10995116 1099511627776
  have hr : (0 : ℝ) ≤ (n.toNat : ℝ) * (((10995116 : Nat) : ℝ) / ((1099511627776 : Nat) : ℝ)) := by positivity
  have e := fptosi_floor hr hf hq
  rw [EReal.coe_mul] at e
  unfold quot
  rw [recip]
  have hm : (FloatOps.mulf (FloatOps.sitofp .f32 n : Ideal .f32) (((10995116 : ℝ) / 1099511627776 : ℝ) : EReal) : Ideal .f32)
      = ((n.toNat : ℝ) : EReal) * ((((10995116 : Nat) : ℝ) / ((1099511627776 : Nat) : ℝ) : ℝ) : EReal) := by
    show ((n.toInt : ℝ) : EReal) * _ = _
    rw [hn, Int.cast_natCast, Nat.cast_ofNat, Nat.cast_ofNat]
  rw [hm]
  exact e

/-- A candidate quotient that is the quotient or one less is mended to the remainder. -/
theorem mend_eq {n : BitVec 32} {q : Nat} (h : n.toNat < 2147483648) (h0 : q * 100000 ≤ n.toNat) (h1 : n.toNat < q * 100000 + 200000) :
    mend n (BitVec.ofNat 32 q) = BitVec.ofNat 32 (n.toNat % 100000) := by
  have hr : IntOp.subi n (IntOp.muli (BitVec.ofNat 32 q) 100000#32) = BitVec.ofNat 32 (n.toNat - q * 100000) := by
    apply BitVec.eq_of_toNat_eq
    simp only [IntOp.subi, IntOp.muli, BitVec.toNat_sub, BitVec.toNat_mul, BitVec.toNat_ofNat]
    omega
  unfold mend
  simp only [hr]
  rw [WordCmp.cmpi_slt_zero, WordCmp.select_decide, if_neg (by rw [BitVec.toNat_ofNat]; omega),
    show (100000#32 : BitVec 32) = BitVec.ofNat 32 100000 from rfl]
  by_cases c : 100000 ≤ n.toNat - q * 100000
  · rw [WordCmp.select_of_eq_one ((WordCmp.cmpi_sge_ofNat_eq_one_iff (by omega) (by omega)).2 c)]
    apply BitVec.eq_of_toNat_eq
    simp only [IntOp.subi, BitVec.toNat_sub, BitVec.toNat_ofNat]
    omega
  · rw [WordCmp.select_of_eq_zero ((WordCmp.cmpi_sge_ofNat_eq_zero_iff (by omega) (by omega)).2 (by omega))]
    congr 1
    omega

/-- The kernel's hash of an id that is not negative is its remainder by 100000. -/
theorem hash_eq {n : BitVec 32} (h : n.toNat < 2147483648) : Lane.hash Ideal n = BitVec.ofNat 32 (n.toNat % 100000) := by
  unfold Lane.hash
  rw [quot_eq h]
  exact mend_eq h (by omega) (by omega)

end Cert.Proof.Hash

end
-- ==== Proof.RefValue.lean ====
/-
  The reference's result at a place of the padded batch: the remainder of the token that belongs there, zero where none does.
-/
module

public import proofs.«01_k».proof.Proof.RefTerm
public import proofs.«01_k».proof.Proof.Hash

@[expose] public section

noncomputable section

namespace Cert.Proof.Ref

open Cert.ReferenceIdeal Cert.ReferenceIdeal.Gen
open Idealize.ShloMosaic Idealize.ShloMosaic.ValueIdx Idealize.ShloMosaic.Routing Idealize.ShloMosaic.StableHlo
open Cert.Proof.Lane Cert.Proof.Stream

/-- The table of targets holds the row in its first column. -/
theorem target_row (u : IVec S17 32) (p : Fin 32768) : target u (ix2 p 0) = rowT u (ix1 p) := by
  refine Eq.trans (b := broadcastInDim S32768x1 ![0] bcast_S32768_S32768x1_0 (rowT u) (ix2 p (0 : Fin 1))) ?_ (bcCol _ _ p)
  refine concatenate_pair_apply_left (t := S32768x2) (s₁ := S32768x1) (s₂ := S32768x1) 1 _ _ _ (ix2 p 0) rfl (ix2 p (0 : Fin 1)) fun b => ?_
  match b with
  | ⟨0, _⟩ => rfl
  | ⟨1, _⟩ => rfl

/-- The table of targets holds the column in its second. -/
theorem target_col (u : IVec S17 32) (p : Fin 32768) : target u (ix2 p 1) = colT u (ix1 p) := by
  refine Eq.trans (b := broadcastInDim S32768x1 ![0] bcast_S32768_S32768x1_0 (colT u) (ix2 p (0 : Fin 1))) ?_ (bcCol _ _ p)
  refine concatenate_pair_apply_right (t := S32768x2) (s₁ := S32768x1) (s₂ := S32768x1) 1 _ _ _ (ix2 p 1) rfl rfl (ix2 p (0 : Fin 1))
    (fun b hb => ?_) ?_
  · match b with
    | ⟨0, _⟩ => rfl
    | ⟨1, _⟩ => exact (hb rfl).elim
  · rfl

/-- Token `p` is written at row `r` and column `c` exactly when the table's two words for it, read signed, are `r` and `c`. -/
theorem lands (t : IVec S32768x2 32) (p : Fin 32768) (r : Fin 17) (c : Fin 4096) :
    scatter_S17x4096_S32768x2_S32768_n_01_01_1.resultIdx? (ix1 p) t = some (ix2 r c)
      ↔ (t (ix2 p 0)).toInt = r.val ∧ (t (ix2 p 1)).toInt = c.val := by
  have s0 : scatter_S17x4096_S32768x2_S32768_n_01_01_1.start (ix1 p) t 0 = (t (ix2 p 0)).toInt := by
    refine (dif_pos (by decide)).trans (congrArg (fun i => (t i).toInt) (funext fun b => ?_))
    match b with
    | ⟨0, _⟩ => rfl
    | ⟨1, _⟩ => rfl
  have s1 : scatter_S17x4096_S32768x2_S32768_n_01_01_1.start (ix1 p) t 1 = (t (ix2 p 1)).toInt := by
    refine (dif_pos (by decide)).trans (congrArg (fun i => (t i).toInt) (funext fun b => ?_))
    match b with
    | ⟨0, _⟩ => rfl
    | ⟨1, _⟩ => rfl
  have w : ∀ a, scatter_S17x4096_S32768x2_S32768_n_01_01_1.window (ix1 p) a = 0 := fun a => by
    refine dif_neg ?_
    revert a
    decide
  rw [resultIdx?_ix2, s0, s1, w, w]
  omega

variable {u : IVec S17 32} (h : Splits (nat u))
include h

/-- Token `p` is written at column `c` of row `b`, a row that is not cut off, exactly when it is the row's token `c`. -/
theorem lands_iff (p : Fin 32768) (b c : Nat) (hb : b < 16) (hc : c < 4096) :
    scatter_S17x4096_S32768x2_S32768_n_01_01_1.resultIdx? (ix1 p) (target u)
        = some (ix2 (⟨b, by omega⟩ : Fin 17) (⟨c, hc⟩ : Fin 4096))
      ↔ p.val = nat u b + c ∧ p.val < nat u (b + 1) := by
  have hp := p.isLt
  have hr := row_lt h p.val
  have hle := row_le h p.isLt
  have hrow := row_eq h p.isLt hb
  rw [lands, target_row, target_col, rowT_at h p, colT_at h p,
    Predicate.toInt_ofNat_small _ (by split <;> omega), Predicate.toInt_ofNat_small _ (by split <;> omega)]
  show ((_ : Nat) : Int) = ((b : Nat) : Int) ∧ ((_ : Nat) : Int) = ((c : Nat) : Int) ↔ _
  rw [Nat.cast_inj, Nat.cast_inj]
  constructor
  · rintro ⟨e0, e1⟩
    split at e0
    · next hf =>
      rw [if_pos hf] at e1
      have := hrow.1 e0
      rw [e0] at e1
      omega
    · omega
  · rintro ⟨e0, e1⟩
    have er := hrow.2 ⟨by omega, e1⟩
    rw [er, if_pos (by omega), if_pos (by omega)]
    omega

/-- The padded batch at column `c` of row `b`. -/
theorem padded_at (f : IVec S32768 32) (hf : ∀ x, (f x).toNat < 2147483648) (b c : Nat) (hb : b < 16) (hc : c < 4096) :
    padded f u (ix2 (⟨b, by omega⟩ : Fin 17) (⟨c, hc⟩ : Fin 4096))
      = if nat u b + c < nat u (b + 1) then BitVec.ofNat 32 ((f (at1 32768 (nat u b + c))).toNat % 100000) else 0#32 := by
  have hl := nat_le h (b + 1) (by omega)
  unfold padded
  split
  · next ht =>
    refine scatter_set_hit _ _ _ _ _ _ (fun k hk => ?_) (ix1 ⟨nat u b + c, by omega⟩) ((lands_iff h _ b c hb hc).2 ⟨rfl, ht⟩)
    obtain ⟨p, rfl⟩ : ∃ p : Fin 32768, k = ix1 p := ⟨k 0, eq_ix1 k⟩
    have e := (lands_iff h p b c hb hc).1 hk
    rw [hashes_at f _ (hf _), at1_of_val (ix1 p) (show p.val = nat u b + c from e.1)]
  · next ht =>
    refine (scatter_set_miss _ _ _ _ _ fun k hk => ?_).trans rfl
    obtain ⟨p, rfl⟩ : ∃ p : Fin 32768, k = ix1 p := ⟨k 0, eq_ix1 k⟩
    have e := (lands_iff h p b c hb hc).1 hk
    omega

/-- The padded batch without its spare row is the kernel's, over the real numbers. -/
theorem padded_eq (f : IVec S32768 32) (hf : ∀ x, (f x).toNat < 2147483648) :
    extractStridedSlice S16x4096 ![0, 0] (padded f u) slices_S17x4096_S16x4096_0_0
      = fun w : S16x4096.Idx => cell Ideal f u (4096 * (w 0).val + (w 1).val) := by
  funext w
  have h0 : (w 0).val < 16 := (w 0).isLt
  have h1 : (w 1).val < 4096 := (w 1).isLt
  refine (extractStridedSlice_apply _ _ _ w (ix2 (⟨(w 0).val, by omega⟩ : Fin 17) (⟨(w 1).val, h1⟩ : Fin 4096)) fun a => ?_).trans ?_
  · match a with
    | ⟨0, _⟩ => exact (Nat.zero_add _).symm
    | ⟨1, _⟩ => exact (Nat.zero_add _).symm
  · rw [padded_at h f hf _ _ h0 h1]
    have d : (4096 * (w 0).val + (w 1).val) / 4096 = (w 0).val := by omega
    have e : (4096 * (w 0).val + (w 1).val) % 4096 = (w 1).val := by omega
    unfold cell
    rw [d, e, Hash.hash_eq (hf _)]
    rfl

omit h in
/-- The reference's result, from a memory that holds a token stream and its row splits. -/
theorem res_value (m : (ℓ : Loc nD τ sig) → Buf (Elt Ideal) ℓ) (c : Dev nD) (f : IVec S32768 32) (u : IVec S17 32)
    (h0 : m ((SparseCore.T c).loc main_arg0) = f) (h1 : m ((SparseCore.T c).loc main_arg1) = u) (hr : Pre.Rows f u) :
    Cert.ReferenceIdeal.Value.res_main_v39 m c = fun w : S16x4096.Idx => cell Ideal f u (4096 * (w 0).val + (w 1).val) := by
  refine (res_eq m c).trans ?_
  rw [h0, h1]
  exact padded_eq (splits hr) f hr.tokens

end Cert.Proof.Ref

end
-- ==== Proof.Value.lean ====
/-
  The kernel and the reference, over the real numbers, leave the same result.
-/
module

public import proofs.«01_k».proof.Defs
public import proofs.«01_k».proof.Proof.RefValue
public import proofs.«01_k».proof.Proof.RunIdeal

@[expose] public section

noncomputable section

namespace Cert.Proof.Value

open Idealize.ShloMosaic Idealize.SL.Sem

/-- From equal arguments that are a token stream and its row splits, the kernel's result and the reference's are equal, word by
    word, and both leave their arguments as they were. -/
theorem algebraic : Cert.algebraic_KernelIdeal_ReferenceIdeal_pre_row_splits_of_tokens := fun m g m' g' hpre hargs =>
  have hr := fun d => Pre.rows (F := Ideal) _ _ (hpre d)
  ⟨fun c => Cert.Proof.KernelIdeal.resBuf m c,
    (θ_run Cert.KernelIdeal.defs _ _).mono (fun _ h c => h.1 c)
      (Cert.Proof.KernelIdeal.run_main (F := Ideal) m g fun d j => (hr d).splits_le j),
    (θ_run Cert.ReferenceIdeal.defs _ _).mono
      (fun _ h c => ⟨(h c).1.trans (Ref.res_value m' c _ _ (hargs c).1 (hargs c).2 (hr c)), (h c).2⟩)
      (Cert.ReferenceIdeal.Value.run m' g')⟩

end Cert.Proof.Value

end
-- ==== Proof.lean ====
module

public import proofs.«01_k».proof.Defs
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the statement: the frames of the kernel (at both float instances) and of the reference, the kernel unchanged
    between its two printings, and the kernel's result equal to the reference's over the real numbers. -/
theorem claim : Cert.Claim :=
  ⟨Cert.Kernel.Gen.facts, Cert.KernelIdeal.Gen.facts, Cert.ReferenceIdeal.Gen.facts, Cert.Pre_splits_in_range.Gen.facts,
    Cert.Pre_row_splits_of_tokens.Gen.facts, Frames.kernel, Frames.kernelIdeal, Frames.kernelIdeal_rows, Frames.reference,
    Frames.reference_rows, trivial, Value.algebraic⟩

end Cert.Proof

end
